-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerRefIdeal (m : (ℓ : Loc Cert.PeerRefIdeal.nD Cert.PeerRefIdeal.τ Cert.PeerRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6)
      ∧ r.2.mem ((c.tc : Thread Cert.Peer.nD Cert.Peer.τ).loc Cert.Peer.main_arg7) = m ((c.tc : Thread Cert.Peer.nD Cert.Peer.τ).loc Cert.Peer.main_arg7))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
      ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6)
      ∧ r.2.mem ((c.tc : Thread Cert.PeerRefIdeal.nD Cert.PeerRefIdeal.τ).loc Cert.PeerRefIdeal.main_arg7) = m ((c.tc : Thread Cert.PeerRefIdeal.nD Cert.PeerRefIdeal.τ).loc Cert.PeerRefIdeal.main_arg7))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v1) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v13) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v39) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)) →
    ∃ (v0 : (c : Dev Cert.MixInIdeal.nD) → Buf (Elt Ideal) ((c.tc : Thread Cert.MixInIdeal.nD Cert.MixInIdeal.τ).loc Cert.MixInIdeal.main_v1_0)) (v1 : (c : Dev Cert.MixInIdeal.nD) → Buf (Elt Ideal) ((c.tc : Thread Cert.MixInIdeal.nD Cert.MixInIdeal.τ).loc Cert.MixInIdeal.main_v1_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v1_0) = v0 c
          ∧ r.2.mem ((c.tc : Thread Cert.MixInIdeal.nD Cert.MixInIdeal.τ).loc Cert.MixInIdeal.main_v1_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v288) = v0 c
          ∧ r.2.mem ((c.tc : Thread Cert.MixInRefIdeal.nD Cert.MixInRefIdeal.τ).loc Cert.MixInRefIdeal.main_v289) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v2_0)) (v1 : (c : Dev Cert.RouteIdeal.nD) → Buf (Elt Ideal) ((c.tc : Thread Cert.RouteIdeal.nD Cert.RouteIdeal.τ).loc Cert.RouteIdeal.main_v2_1)) (v2 : (c : Dev Cert.RouteIdeal.nD) → Buf (Elt Ideal) ((c.tc : Thread Cert.RouteIdeal.nD Cert.RouteIdeal.τ).loc Cert.RouteIdeal.main_v2_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2_0) = v0 c
          ∧ r.2.mem ((c.tc : Thread Cert.RouteIdeal.nD Cert.RouteIdeal.τ).loc Cert.RouteIdeal.main_v2_1) = v1 c
          ∧ r.2.mem ((c.tc : Thread Cert.RouteIdeal.nD Cert.RouteIdeal.τ).loc Cert.RouteIdeal.main_v2_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v25) = v0 c
          ∧ r.2.mem ((c.tc : Thread Cert.RouteRefIdeal.nD Cert.RouteRefIdeal.τ).loc Cert.RouteRefIdeal.main_v26) = v1 c
          ∧ r.2.mem ((c.tc : Thread Cert.RouteRefIdeal.nD Cert.RouteRefIdeal.τ).loc Cert.RouteRefIdeal.main_v27) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4))

def preserves_Peer_PeerIdeal : Prop :=
  True

def algebraic_PeerIdeal_PeerRefIdeal [hPeerIdeal : Cert.PeerIdeal.Facts] [hPeerRefIdeal : Cert.PeerRefIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)
      ∧ m' ((c.tc : Thread Cert.PeerRefIdeal.nD Cert.PeerRefIdeal.τ).loc Cert.PeerRefIdeal.main_arg3) = m ((c.tc : Thread Cert.PeerIdeal.nD Cert.PeerIdeal.τ).loc Cert.PeerIdeal.main_arg3)
      ∧ m' ((c.tc : Thread Cert.PeerRefIdeal.nD Cert.PeerRefIdeal.τ).loc Cert.PeerRefIdeal.main_arg4) = m ((c.tc : Thread Cert.PeerIdeal.nD Cert.PeerIdeal.τ).loc Cert.PeerIdeal.main_arg4)
      ∧ m' ((c.tc : Thread Cert.PeerRefIdeal.nD Cert.PeerRefIdeal.τ).loc Cert.PeerRefIdeal.main_arg5) = m ((c.tc : Thread Cert.PeerIdeal.nD Cert.PeerIdeal.τ).loc Cert.PeerIdeal.main_arg5)
      ∧ m' ((c.tc : Thread Cert.PeerRefIdeal.nD Cert.PeerRefIdeal.τ).loc Cert.PeerRefIdeal.main_arg6) = m ((c.tc : Thread Cert.PeerIdeal.nD Cert.PeerIdeal.τ).loc Cert.PeerIdeal.main_arg6)
      ∧ m' ((c.tc : Thread Cert.PeerRefIdeal.nD Cert.PeerRefIdeal.τ).loc Cert.PeerRefIdeal.main_arg7) = m ((c.tc : Thread Cert.PeerIdeal.nD Cert.PeerIdeal.τ).loc Cert.PeerIdeal.main_arg7)) →
    ∃ (v0 : (c : Dev Cert.PeerIdeal.nD) → Buf (Elt Ideal) ((c.tc : Thread Cert.PeerIdeal.nD Cert.PeerIdeal.τ).loc Cert.PeerIdeal.main_v2)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v2) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
          ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v57) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2)
          ∧ r.2.mem ((c.tc : Thread Cert.PeerRefIdeal.nD Cert.PeerRefIdeal.τ).loc Cert.PeerRefIdeal.main_arg3) = m' ((c.tc : Thread Cert.PeerRefIdeal.nD Cert.PeerRefIdeal.τ).loc Cert.PeerRefIdeal.main_arg3)
          ∧ r.2.mem ((c.tc : Thread Cert.PeerRefIdeal.nD Cert.PeerRefIdeal.τ).loc Cert.PeerRefIdeal.main_arg4) = m' ((c.tc : Thread Cert.PeerRefIdeal.nD Cert.PeerRefIdeal.τ).loc Cert.PeerRefIdeal.main_arg4)
          ∧ r.2.mem ((c.tc : Thread Cert.PeerRefIdeal.nD Cert.PeerRefIdeal.τ).loc Cert.PeerRefIdeal.main_arg5) = m' ((c.tc : Thread Cert.PeerRefIdeal.nD Cert.PeerRefIdeal.τ).loc Cert.PeerRefIdeal.main_arg5)
          ∧ r.2.mem ((c.tc : Thread Cert.PeerRefIdeal.nD Cert.PeerRefIdeal.τ).loc Cert.PeerRefIdeal.main_arg6) = m' ((c.tc : Thread Cert.PeerRefIdeal.nD Cert.PeerRefIdeal.τ).loc Cert.PeerRefIdeal.main_arg6)
          ∧ r.2.mem ((c.tc : Thread Cert.PeerRefIdeal.nD Cert.PeerRefIdeal.τ).loc Cert.PeerRefIdeal.main_arg7) = m' ((c.tc : Thread Cert.PeerRefIdeal.nD Cert.PeerRefIdeal.τ).loc Cert.PeerRefIdeal.main_arg7))

def Claim : Prop :=
  ∃ (hAttn : Cert.Attn.Facts) (hAttnIdeal : Cert.AttnIdeal.Facts) (hAttnRefIdeal : Cert.AttnRefIdeal.Facts) (hKvProj : Cert.KvProj.Facts) (hKvProjIdeal : Cert.KvProjIdeal.Facts) (hKvProjRefIdeal : Cert.KvProjRefIdeal.Facts) (hMixOut : Cert.MixOut.Facts) (hMixOutIdeal : Cert.MixOutIdeal.Facts) (hMixOutRefIdeal : Cert.MixOutRefIdeal.Facts) (hMixIn : Cert.MixIn.Facts) (hMixInIdeal : Cert.MixInIdeal.Facts) (hMixInRefIdeal : Cert.MixInRefIdeal.Facts) (hRoute : Cert.Route.Facts) (hRouteIdeal : Cert.RouteIdeal.Facts) (hRouteRefIdeal : Cert.RouteRefIdeal.Facts) (hPeer : Cert.Peer.Facts) (hPeerIdeal : Cert.PeerIdeal.Facts) (hPeerRefIdeal : Cert.PeerRefIdeal.Facts),
    quiescent_Attn (hAttn := hAttn)
    ∧ quiescent_AttnIdeal (hAttnIdeal := hAttnIdeal)
    ∧ quiescent_AttnRefIdeal (hAttnRefIdeal := hAttnRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Route (hRoute := hRoute)
    ∧ quiescent_RouteIdeal (hRouteIdeal := hRouteIdeal)
    ∧ quiescent_RouteRefIdeal (hRouteRefIdeal := hRouteRefIdeal)
    ∧ quiescent_Peer (hPeer := hPeer)
    ∧ quiescent_PeerIdeal (hPeerIdeal := hPeerIdeal)
    ∧ quiescent_PeerRefIdeal (hPeerRefIdeal := hPeerRefIdeal)
    ∧ preserves_Attn_AttnIdeal
    ∧ algebraic_AttnIdeal_AttnRefIdeal (hAttnIdeal := hAttnIdeal) (hAttnRefIdeal := hAttnRefIdeal)
    ∧ preserves_KvProj_KvProjIdeal
    ∧ algebraic_KvProjIdeal_KvProjRefIdeal (hKvProjIdeal := hKvProjIdeal) (hKvProjRefIdeal := hKvProjRefIdeal)
    ∧ preserves_MixOut_MixOutIdeal
    ∧ algebraic_MixOutIdeal_MixOutRefIdeal (hMixOutIdeal := hMixOutIdeal) (hMixOutRefIdeal := hMixOutRefIdeal)
    ∧ preserves_MixIn_MixInIdeal
    ∧ algebraic_MixInIdeal_MixInRefIdeal (hMixInIdeal := hMixInIdeal) (hMixInRefIdeal := hMixInRefIdeal)
    ∧ preserves_Route_RouteIdeal
    ∧ algebraic_RouteIdeal_RouteRefIdeal (hRouteIdeal := hRouteIdeal) (hRouteRefIdeal := hRouteRefIdeal)
    ∧ preserves_Peer_PeerIdeal
    ∧ algebraic_PeerIdeal_PeerRefIdeal (hPeerIdeal := hPeerIdeal) (hPeerRefIdeal := hPeerRefIdeal)
-- ==== Attn.lean ====
abbrev S8192x2048 : Shape := ⟨2, ![8192, 2048]⟩
abbrev S1x2048 : Shape := ⟨2, ![1, 2048]⟩
abbrev S2048x2048 : Shape := ⟨2, ![2048, 2048]⟩
abbrev S512x4096 : Shape := ⟨2, ![512, 4096]⟩
abbrev S512x2048 : Shape := ⟨2, ![512, 2048]⟩
abbrev S256x2048 : Shape := ⟨2, ![256, 2048]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x256 : Shape := ⟨2, ![512, 256]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .f32⟩
  | .hbm, ⟨3, _⟩ => ⟨S512x4096, .bf16⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnRefIdeal.lean ====
abbrev S8192x2048 : Shape := ⟨2, ![8192, 2048]⟩
abbrev S1x2048 : Shape := ⟨2, ![1, 2048]⟩
abbrev S2048x2048 : Shape := ⟨2, ![2048, 2048]⟩
abbrev S512x4096 : Shape := ⟨2, ![512, 4096]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4x512 : Shape := ⟨4, ![2, 4096, 4, 512]⟩
abbrev S2x256x2x4x512 : Shape := ⟨5, ![2, 256, 2, 4, 512]⟩
abbrev S2x256x1x4x512 : Shape := ⟨5, ![2, 256, 1, 4, 512]⟩
abbrev S2x256x4x512 : Shape := ⟨4, ![2, 256, 4, 512]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .f32⟩
  | .hbm, ⟨3, _⟩ => ⟨S512x4096, .bf16⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S2x4096x4x512, .f32⟩
  | .hbm, ⟨24, _⟩ => ⟨S512x4096, .f32⟩
  | .hbm, ⟨25, _⟩ => ⟨S2x256x2x4x512, .f32⟩
  | .hbm, ⟨26, _⟩ => ⟨S2x256x1x4x512, .f32⟩
  | .hbm, ⟨27, _⟩ => ⟨S2x256x4x512, .f32⟩
  | .hbm, ⟨28, _⟩ => ⟨S2x256x1x4x512, .f32⟩
  | .hbm, ⟨29, _⟩ => ⟨S2x256x4x512, .f32⟩
  | .hbm, ⟨30, _⟩ => ⟨S2x4x4096x256, .f32⟩
  | .hbm, ⟨31, _⟩ => ⟨S_, .f32⟩
  | .hbm, ⟨32, _⟩ => ⟨S2x4x4096x256, .f32⟩
  | .hbm, ⟨33, _⟩ => ⟨S2x4x4096x256, .f32⟩
  | .hbm, ⟨34, _⟩ => ⟨S_, .f32⟩
  | .hbm, ⟨35, _⟩ => ⟨S2x4x4096, .f32⟩
  | .hbm, ⟨36, _⟩ => ⟨S_, .f32⟩
  | .hbm, ⟨37, _⟩ => ⟨S2x4x4096, .f32⟩
  | .hbm, ⟨38, _⟩ => ⟨S2x4x4096, .f32⟩
  | .hbm, ⟨39, _⟩ => ⟨S2x4x4096x1, .f32⟩
  | .hbm, ⟨40, _⟩ => ⟨S2x4x4096x256, .f32⟩
  | .hbm, ⟨41, _⟩ => ⟨S2x4x4096x256, .f32⟩
  | .hbm, ⟨42, _⟩ => ⟨S2x4x4096x256, .f32⟩
  | .hbm, ⟨43, _⟩ => ⟨S_, .f32⟩
  | .hbm, ⟨44, _⟩ => ⟨S2x4x4096, .f32⟩
  | .hbm, ⟨45, _⟩ => ⟨S2x4x4096x1, .f32⟩
  | .hbm, ⟨46, _⟩ => ⟨S2x4x4096x256, .f32⟩
  | .hbm, ⟨47, _⟩ => ⟨S2x4x4096x256, .f32⟩
  | .hbm, ⟨48, _⟩ => ⟨S2x4x512x4096, .f32⟩
  | .hbm, ⟨49, _⟩ => ⟨S2x4096x4x512, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== KvProj.lean ====
abbrev S512x2048 : Shape := ⟨2, ![512, 2048]⟩
abbrev S1x2048 : Shape := ⟨2, ![1, 2048]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x4096, .f32⟩
  | .hbm, ⟨3, _⟩ => ⟨S2048x4096, .bf16⟩
  | .hbm, ⟨4, _⟩ => ⟨S512x4096, .bf16⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvProjRefIdeal.lean ====
abbrev S512x2048 : Shape := ⟨2, ![512, 2048]⟩
abbrev S1x2048 : Shape := ⟨2, ![1, 2048]⟩
abbrev S2048x4096 : Shape := ⟨2, ![2048, 4096]⟩
abbrev S_ : Shape := ⟨0, ![]⟩
abbrev S512 : Shape := ⟨1, ![512]⟩
abbrev S512x1 : Shape := ⟨2, ![512, 1]⟩
abbrev S512x4096 : Shape := ⟨2, ![512, 4096]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x4096, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x4096, .f32⟩
  | .hbm, ⟨19, _⟩ => ⟨S512x4096, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MixOut.lean ====
abbrev S8192x1024 : Shape := ⟨2, ![8192, 1024]⟩
abbrev S1x1024 : Shape := ⟨2, ![1, 1024]⟩
abbrev S1024x1024 : Shape := ⟨2, ![1024, 1024]⟩
abbrev S2048x2048 : Shape := ⟨2, ![2048, 2048]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .bf16⟩
  | .hbm, ⟨6, _⟩ => ⟨S2048x2048, .f32⟩
  | .hbm, ⟨7, _⟩ => ⟨S8192x2048, .f32⟩
  | .hbm, ⟨8, _⟩ => ⟨S1024x1024, .bf16⟩
  | .hbm, ⟨9, _⟩ => ⟨S2048x2048, .bf16⟩
  | .hbm, ⟨10, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S8192x1024 : Shape := ⟨2, ![8192, 1024]⟩
abbrev S1x1024 : Shape := ⟨2, ![1, 1024]⟩
abbrev S1024x1024 : Shape := ⟨2, ![1024, 1024]⟩
abbrev S2048x2048 : Shape := ⟨2, ![2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S1x1024, .f32⟩
  | .hbm, ⟨5, _⟩ => ⟨S8192x1024, .bf16⟩
  | .hbm, ⟨6, _⟩ => ⟨S2048x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== MixIn.lean ====
abbrev S8192x2048 : Shape := ⟨2, ![8192, 2048]⟩
abbrev S1x2048 : Shape := ⟨2, ![1, 2048]⟩
abbrev S2048x3072 : Shape := ⟨2, ![2048, 3072]⟩
abbrev S31x1024 : Shape := ⟨2, ![31, 1024]⟩
abbrev S1x1024 : Shape := ⟨2, ![1, 1024]⟩
abbrev S8192x1024 : Shape := ⟨2, ![8192, 1024]⟩
abbrev S512x2048 : Shape := ⟨2, ![512, 2048]⟩
abbrev S512x1024 : Shape := ⟨2, ![512, 1024]⟩
abbrev S544x1024 : Shape := ⟨2, ![544, 1024]⟩
abbrev S512 : Shape := ⟨1, ![512]⟩
abbrev S512x1 : Shape := ⟨2, ![512, 1]⟩
abbrev S2048x1024 : Shape := ⟨2, ![2048, 1024]⟩
abbrev S32x1024 : Shape := ⟨2, ![32, 1024]⟩
abbrev S32 : Shape := ⟨1, ![32]⟩
abbrev S32x1 : Shape := ⟨2, ![32, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3072, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x3072, .bf16⟩
  | .hbm, ⟨9, _⟩ => ⟨S8192x1024, .bf16⟩
  | .hbm, ⟨10, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S544x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixInRefIdeal.lean ====
abbrev S8192x2048 : Shape := ⟨2, ![8192, 2048]⟩
abbrev S1x2048 : Shape := ⟨2, ![1, 2048]⟩
abbrev S2048x3072 : Shape := ⟨2, ![2048, 3072]⟩
abbrev S31x1024 : Shape := ⟨2, ![31, 1024]⟩
abbrev S1x1024 : Shape := ⟨2, ![1, 1024]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x3072 : Shape := ⟨3, ![2, 4096, 3072]⟩
abbrev S2x4096x1024 : Shape := ⟨3, ![2, 4096, 1024]⟩
abbrev S2x4126x1024 : Shape := ⟨3, ![2, 4126, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 315
  | .vmem => 0
  | .smem => 0
  | _ => 0

abbrev hbmTy0_0 (i : Nat) : BufTy := match i % 128 with
  | 0 => ⟨S8192x2048, .f32⟩
  | 1 => ⟨S1x2048, .f32⟩
  | 2 => ⟨S2048x3072, .f32⟩
  | 3 => ⟨S31x1024, .f32⟩
  | 4 => ⟨S1x1024, .f32⟩
  | 5 => ⟨S1x1024, .f32⟩
  | 6 => ⟨S1x1024, .f32⟩
  | 7 => ⟨S1x1024, .f32⟩
  | 8 => ⟨S2x4096x2048, .f32⟩
  | 9 => ⟨S2x4096x2048, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S_, .f32⟩
  | 17 => ⟨S2x4096x1, .f32⟩
  | 18 => ⟨S2x4096x1, .f32⟩
  | 19 => ⟨S2x4096x1, .f32⟩
  | 20 => ⟨S2x4096x2048, .f32⟩
  | 21 => ⟨S2x4096x2048, .f32⟩
  | 22 => ⟨S1x1x2048, .f32⟩
  | 23 => ⟨S2x4096x2048, .f32⟩
  | 24 => ⟨S2x4096x2048, .f32⟩
  | 25 => ⟨S2x4096x3072, .f32⟩
  | 26 => ⟨S2x4096x1024, .f32⟩
  | 27 => ⟨S2x4096x1024, .f32⟩
  | 28 => ⟨S2x4096x1024, .f32⟩
  | 29 => ⟨S2x4096x1024, .f32⟩
  | 30 => ⟨S_, .f32⟩
  | 31 => ⟨S2x4096x1024, .f32⟩
  | 32 => ⟨S2x4096x1024, .f32⟩
  | 33 => ⟨S_, .f32⟩
  | 34 => ⟨S2x4096x1024, .f32⟩
  | 35 => ⟨S2x4096x1024, .f32⟩
  | 36 => ⟨S2x4096x1024, .f32⟩
  | 37 => ⟨S2x4096x1024, .f32⟩
  | 38 => ⟨S_, .i32⟩
  | 39 => ⟨S_, .f32⟩
  | 40 => ⟨S2x4126x1024, .f32⟩
  | 41 => ⟨S2x4096x1024, .f32⟩
  | 42 => ⟨S1x1024, .f32⟩
  | 43 => ⟨S1024, .f32⟩
  | 44 => ⟨S1x1x1024, .f32⟩
  | 45 => ⟨S2x4096x1024, .f32⟩
  | 46 => ⟨S2x4096x1024, .f32⟩
  | 47 => ⟨S2x4096x1024, .f32⟩
  | 48 => ⟨S1x1024, .f32⟩
  | 49 => ⟨S1024, .f32⟩
  | 50 => ⟨S1x1x1024, .f32⟩
  | 51 => ⟨S2x4096x1024, .f32⟩
  | 52 => ⟨S2x4096x1024, .f32⟩
  | 53 => ⟨S2x4096x1024, .f32⟩
  | 54 => ⟨S2x4096x1024, .f32⟩
  | 55 => ⟨S1x1024, .f32⟩
  | 56 => ⟨S1024, .f32⟩
  | 57 => ⟨S1x1x1024, .f32⟩
  | 58 => ⟨S2x4096x1024, .f32⟩
  | 59 => ⟨S2x4096x1024, .f32⟩
  | 60 => ⟨S2x4096x1024, .f32⟩
  | 61 => ⟨S2x4096x1024, .f32⟩
  | 62 => ⟨S1x1024, .f32⟩
  | 63 => ⟨S1024, .f32⟩
  | 64 => ⟨S1x1x1024, .f32⟩
  | 65 => ⟨S2x4096x1024, .f32⟩
  | 66 => ⟨S2x4096x1024, .f32⟩
  | 67 => ⟨S2x4096x1024, .f32⟩
  | 68 => ⟨S2x4096x1024, .f32⟩
  | 69 => ⟨S1x1024, .f32⟩
  | 70 => ⟨S1024, .f32⟩
  | 71 => ⟨S1x1x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S1x1024, .f32⟩
  | 77 => ⟨S1024, .f32⟩
  | 78 => ⟨S1x1x1024, .f32⟩
  | 79 => ⟨S2x4096x1024, .f32⟩
  | 80 => ⟨S2x4096x1024, .f32⟩
  | 81 => ⟨S2x4096x1024, .f32⟩
  | 82 => ⟨S2x4096x1024, .f32⟩
  | 83 => ⟨S1x1024, .f32⟩
  | 84 => ⟨S1024, .f32⟩
  | 85 => ⟨S1x1x1024, .f32⟩
  | 86 => ⟨S2x4096x1024, .f32⟩
  | 87 => ⟨S2x4096x1024, .f32⟩
  | 88 => ⟨S2x4096x1024, .f32⟩
  | 89 => ⟨S2x4096x1024, .f32⟩
  | 90 => ⟨S1x1024, .f32⟩
  | 91 => ⟨S1024, .f32⟩
  | 92 => ⟨S1x1x1024, .f32⟩
  | 93 => ⟨S2x4096x1024, .f32⟩
  | 94 => ⟨S2x4096x1024, .f32⟩
  | 95 => ⟨S2x4096x1024, .f32⟩
  | 96 => ⟨S2x4096x1024, .f32⟩
  | 97 => ⟨S1x1024, .f32⟩
  | 98 => ⟨S1024, .f32⟩
  | 99 => ⟨S1x1x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S1x1024, .f32⟩
  | 105 => ⟨S1024, .f32⟩
  | 106 => ⟨S1x1x1024, .f32⟩
  | 107 => ⟨S2x4096x1024, .f32⟩
  | 108 => ⟨S2x4096x1024, .f32⟩
  | 109 => ⟨S2x4096x1024, .f32⟩
  | 110 => ⟨S2x4096x1024, .f32⟩
  | 111 => ⟨S1x1024, .f32⟩
  | 112 => ⟨S1024, .f32⟩
  | 113 => ⟨S1x1x1024, .f32⟩
  | 114 => ⟨S2x4096x1024, .f32⟩
  | 115 => ⟨S2x4096x1024, .f32⟩
  | 116 => ⟨S2x4096x1024, .f32⟩
  | 117 => ⟨S2x4096x1024, .f32⟩
  | 118 => ⟨S1x1024, .f32⟩
  | 119 => ⟨S1024, .f32⟩
  | 120 => ⟨S1x1x1024, .f32⟩
  | 121 => ⟨S2x4096x1024, .f32⟩
  | 122 => ⟨S2x4096x1024, .f32⟩
  | 123 => ⟨S2x4096x1024, .f32⟩
  | 124 => ⟨S2x4096x1024, .f32⟩
  | 125 => ⟨S1x1024, .f32⟩
  | 126 => ⟨S1024, .f32⟩
  | 127 => ⟨S1x1x1024, .f32⟩
  | _ => ⟨S8192x2048, .f32⟩

abbrev hbmTy0_1 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S1x1024, .f32⟩
  | 5 => ⟨S1024, .f32⟩
  | 6 => ⟨S1x1x1024, .f32⟩
  | 7 => ⟨S2x4096x1024, .f32⟩
  | 8 => ⟨S2x4096x1024, .f32⟩
  | 9 => ⟨S2x4096x1024, .f32⟩
  | 10 => ⟨S2x4096x1024, .f32⟩
  | 11 => ⟨S1x1024, .f32⟩
  | 12 => ⟨S1024, .f32⟩
  | 13 => ⟨S1x1x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S1x1024, .f32⟩
  | 19 => ⟨S1024, .f32⟩
  | 20 => ⟨S1x1x1024, .f32⟩
  | 21 => ⟨S2x4096x1024, .f32⟩
  | 22 => ⟨S2x4096x1024, .f32⟩
  | 23 => ⟨S2x4096x1024, .f32⟩
  | 24 => ⟨S2x4096x1024, .f32⟩
  | 25 => ⟨S1x1024, .f32⟩
  | 26 => ⟨S1024, .f32⟩
  | 27 => ⟨S1x1x1024, .f32⟩
  | 28 => ⟨S2x4096x1024, .f32⟩
  | 29 => ⟨S2x4096x1024, .f32⟩
  | 30 => ⟨S2x4096x1024, .f32⟩
  | 31 => ⟨S2x4096x1024, .f32⟩
  | 32 => ⟨S1x1024, .f32⟩
  | 33 => ⟨S1024, .f32⟩
  | 34 => ⟨S1x1x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S1x1024, .f32⟩
  | 40 => ⟨S1024, .f32⟩
  | 41 => ⟨S1x1x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S1x1024, .f32⟩
  | 47 => ⟨S1024, .f32⟩
  | 48 => ⟨S1x1x1024, .f32⟩
  | 49 => ⟨S2x4096x1024, .f32⟩
  | 50 => ⟨S2x4096x1024, .f32⟩
  | 51 => ⟨S2x4096x1024, .f32⟩
  | 52 => ⟨S2x4096x1024, .f32⟩
  | 53 => ⟨S1x1024, .f32⟩
  | 54 => ⟨S1024, .f32⟩
  | 55 => ⟨S1x1x1024, .f32⟩
  | 56 => ⟨S2x4096x1024, .f32⟩
  | 57 => ⟨S2x4096x1024, .f32⟩
  | 58 => ⟨S2x4096x1024, .f32⟩
  | 59 => ⟨S2x4096x1024, .f32⟩
  | 60 => ⟨S1x1024, .f32⟩
  | 61 => ⟨S1024, .f32⟩
  | 62 => ⟨S1x1x1024, .f32⟩
  | 63 => ⟨S2x4096x1024, .f32⟩
  | 64 => ⟨S2x4096x1024, .f32⟩
  | 65 => ⟨S2x4096x1024, .f32⟩
  | 66 => ⟨S2x4096x1024, .f32⟩
  | 67 => ⟨S1x1024, .f32⟩
  | 68 => ⟨S1024, .f32⟩
  | 69 => ⟨S1x1x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S1x1024, .f32⟩
  | 75 => ⟨S1024, .f32⟩
  | 76 => ⟨S1x1x1024, .f32⟩
  | 77 => ⟨S2x4096x1024, .f32⟩
  | 78 => ⟨S2x4096x1024, .f32⟩
  | 79 => ⟨S2x4096x1024, .f32⟩
  | 80 => ⟨S2x4096x1024, .f32⟩
  | 81 => ⟨S1x1024, .f32⟩
  | 82 => ⟨S1024, .f32⟩
  | 83 => ⟨S1x1x1024, .f32⟩
  | 84 => ⟨S2x4096x1024, .f32⟩
  | 85 => ⟨S2x4096x1024, .f32⟩
  | 86 => ⟨S2x4096x1024, .f32⟩
  | 87 => ⟨S2x4096x1024, .f32⟩
  | 88 => ⟨S1x1024, .f32⟩
  | 89 => ⟨S1024, .f32⟩
  | 90 => ⟨S1x1x1024, .f32⟩
  | 91 => ⟨S2x4096x1024, .f32⟩
  | 92 => ⟨S2x4096x1024, .f32⟩
  | 93 => ⟨S2x4096x1024, .f32⟩
  | 94 => ⟨S2x4096x1024, .f32⟩
  | 95 => ⟨S1x1024, .f32⟩
  | 96 => ⟨S1024, .f32⟩
  | 97 => ⟨S1x1x1024, .f32⟩
  | 98 => ⟨S2x4096x1024, .f32⟩
  | 99 => ⟨S2x4096x1024, .f32⟩
  | 100 => ⟨S2x4096x1024, .f32⟩
  | 101 => ⟨S2x4096x1024, .f32⟩
  | 102 => ⟨S1x1024, .f32⟩
  | 103 => ⟨S1024, .f32⟩
  | 104 => ⟨S1x1x1024, .f32⟩
  | 105 => ⟨S2x4096x1024, .f32⟩
  | 106 => ⟨S2x4096x1024, .f32⟩
  | 107 => ⟨S2x4096x1024, .f32⟩
  | 108 => ⟨S2x4096x1024, .f32⟩
  | 109 => ⟨S1x1024, .f32⟩
  | 110 => ⟨S1024, .f32⟩
  | 111 => ⟨S1x1x1024, .f32⟩
  | 112 => ⟨S2x4096x1024, .f32⟩
  | 113 => ⟨S2x4096x1024, .f32⟩
  | 114 => ⟨S2x4096x1024, .f32⟩
  | 115 => ⟨S2x4096x1024, .f32⟩
  | 116 => ⟨S1x1024, .f32⟩
  | 117 => ⟨S1024, .f32⟩
  | 118 => ⟨S1x1x1024, .f32⟩
  | 119 => ⟨S2x4096x1024, .f32⟩
  | 120 => ⟨S2x4096x1024, .f32⟩
  | 121 => ⟨S2x4096x1024, .f32⟩
  | 122 => ⟨S2x4096x1024, .f32⟩
  | 123 => ⟨S1x1024, .f32⟩
  | 124 => ⟨S1024, .f32⟩
  | 125 => ⟨S1x1x1024, .f32⟩
  | 126 => ⟨S2x4096x1024, .f32⟩
  | 127 => ⟨S2x4096x1024, .f32⟩
  | _ => ⟨S8192x2048, .f32⟩

abbrev hbmTy0_2 (i : Nat) : BufTy := match i % 128 with
  | 0 => ⟨S2x4096x1024, .f32⟩
  | 1 => ⟨S1x1x1024, .f32⟩
  | 2 => ⟨S2x4096x1024, .f32⟩
  | 3 => ⟨S2x4096x1024, .f32⟩
  | 4 => ⟨S_, .f32⟩
  | 5 => ⟨S2x4096, .f32⟩
  | 6 => ⟨S2x4096x1, .f32⟩
  | 7 => ⟨S_, .f32⟩
  | 8 => ⟨S2x4096x1, .f32⟩
  | 9 => ⟨S2x4096x1, .f32⟩
  | 10 => ⟨S2x4096x1024, .f32⟩
  | 11 => ⟨S2x4096x1024, .f32⟩
  | 12 => ⟨S2x4096x1024, .f32⟩
  | 13 => ⟨S_, .f32⟩
  | 14 => ⟨S2x4096, .f32⟩
  | 15 => ⟨S2x4096x1, .f32⟩
  | 16 => ⟨S_, .f32⟩
  | 17 => ⟨S2x4096x1, .f32⟩
  | 18 => ⟨S2x4096x1, .f32⟩
  | 19 => ⟨S_, .f32⟩
  | 20 => ⟨S2x4096x1, .f32⟩
  | 21 => ⟨S2x4096x1, .f32⟩
  | 22 => ⟨S2x4096x1, .f32⟩
  | 23 => ⟨S2x4096x1024, .f32⟩
  | 24 => ⟨S2x4096x1024, .f32⟩
  | 25 => ⟨S1x1x1024, .f32⟩
  | 26 => ⟨S2x4096x1024, .f32⟩
  | 27 => ⟨S2x4096x1024, .f32⟩
  | 28 => ⟨S1x1x1024, .f32⟩
  | 29 => ⟨S2x4096x1024, .f32⟩
  | 30 => ⟨S2x4096x1024, .f32⟩
  | 31 => ⟨S2x4096x1024, .f32⟩
  | 32 => ⟨S2x4096x1024, .f32⟩
  | 33 => ⟨S_, .f32⟩
  | 34 => ⟨S2x4096x1024, .f32⟩
  | 35 => ⟨S2x4096x1024, .f32⟩
  | 36 => ⟨S_, .f32⟩
  | 37 => ⟨S2x4096x1024, .f32⟩
  | 38 => ⟨S2x4096x1024, .f32⟩
  | 39 => ⟨S2x4096x1024, .f32⟩
  | 40 => ⟨S2x4096x1024, .f32⟩
  | 41 => ⟨S_, .f32⟩
  | 42 => ⟨S2x4096, .f32⟩
  | 43 => ⟨S2x4096x1, .f32⟩
  | 44 => ⟨S_, .f32⟩
  | 45 => ⟨S2x4096x1, .f32⟩
  | 46 => ⟨S2x4096x1, .f32⟩
  | 47 => ⟨S_, .f32⟩
  | 48 => ⟨S2x4096x1, .f32⟩
  | 49 => ⟨S2x4096x1, .f32⟩
  | 50 => ⟨S2x4096x1, .f32⟩
  | 51 => ⟨S2x4096x1024, .f32⟩
  | 52 => ⟨S2x4096x1024, .f32⟩
  | 53 => ⟨S1x1x1024, .f32⟩
  | 54 => ⟨S2x4096x1024, .f32⟩
  | 55 => ⟨S2x4096x1024, .f32⟩
  | 56 => ⟨S2x4096x1024, .bf16⟩
  | 57 => ⟨S8192x1024, .bf16⟩
  | 58 => ⟨S8192x1024, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_cst_4 : Ref sig .tc := ⟨.hbm, 260, rfl⟩
abbrev main_v245 : Ref sig .tc := ⟨.hbm, 261, rfl⟩
abbrev main_v246 : Ref sig .tc := ⟨.hbm, 262, rfl⟩
abbrev main_cst_5 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_cst_6 : Ref sig .tc := ⟨.hbm, 269, rfl⟩
abbrev main_v252 : Ref sig .tc := ⟨.hbm, 270, rfl⟩
abbrev main_v253 : Ref sig .tc := ⟨.hbm, 271, rfl⟩
abbrev main_cst_7 : Ref sig .tc := ⟨.hbm, 272, rfl⟩
abbrev main_v254 : Ref sig .tc := ⟨.hbm, 273, rfl⟩
abbrev main_v255 : Ref sig .tc := ⟨.hbm, 274, rfl⟩
abbrev main_cst_8 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_cst_9 : Ref sig .tc := ⟨.hbm, 289, rfl⟩
abbrev main_v269 : Ref sig .tc := ⟨.hbm, 290, rfl⟩
abbrev main_v270 : Ref sig .tc := ⟨.hbm, 291, rfl⟩
abbrev main_cst_10 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_cst_11 : Ref sig .tc := ⟨.hbm, 297, rfl⟩
abbrev main_v275 : Ref sig .tc := ⟨.hbm, 298, rfl⟩
abbrev main_v276 : Ref sig .tc := ⟨.hbm, 299, rfl⟩
abbrev main_cst_12 : Ref sig .tc := ⟨.hbm, 300, rfl⟩
abbrev main_v277 : Ref sig .tc := ⟨.hbm, 301, rfl⟩
abbrev main_v278 : Ref sig .tc := ⟨.hbm, 302, rfl⟩
abbrev main_cst_13 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩

abbrev nD : Nat := 1
abbrev τ : Topo := Topo.v7x

variable {F : FTy → Type} [FloatOps F]
-- ==== Route.lean ====
abbrev S8192x2048 : Shape := ⟨2, ![8192, 2048]⟩
abbrev S1x2048 : Shape := ⟨2, ![1, 2048]⟩
abbrev S2048x1024 : Shape := ⟨2, ![2048, 1024]⟩
abbrev S8x128x64 : Shape := ⟨3, ![8, 128, 64]⟩
abbrev S1024x2048 : Shape := ⟨2, ![1024, 2048]⟩
abbrev S2048x8192 : Shape := ⟨2, ![2048, 8192]⟩
abbrev S8x128x8192 : Shape := ⟨3, ![8, 128, 8192]⟩
abbrev S32x8192 : Shape := ⟨2, ![32, 8192]⟩
abbrev S256x2048 : Shape := ⟨2, ![256, 2048]⟩
abbrev S2048x256 : Shape := ⟨2, ![2048, 256]⟩
abbrev S8x128x256 : Shape := ⟨3, ![8, 128, 256]⟩
abbrev S32x256 : Shape := ⟨2, ![32, 256]⟩
abbrev S256 : Shape := ⟨1, ![256]⟩
abbrev S256x1 : Shape := ⟨2, ![256, 1]⟩
abbrev S1024x256 : Shape := ⟨2, ![1024, 256]⟩
abbrev S1x128x64 : Shape := ⟨3, ![1, 128, 64]⟩
abbrev S128x64 : Shape := ⟨2, ![128, 64]⟩
abbrev S64x256 : Shape := ⟨2, ![64, 256]⟩
abbrev S128x256 : Shape := ⟨2, ![128, 256]⟩
abbrev S1x128x256 : Shape := ⟨3, ![1, 128, 256]⟩
abbrev S1x256 : Shape := ⟨2, ![1, 256]⟩
abbrev S6x256 : Shape := ⟨2, ![6, 256]⟩
abbrev S56x256 : Shape := ⟨2, ![56, 256]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x1024, .f32⟩
  | .hbm, ⟨3, _⟩ => ⟨S8x128x64, .bf16⟩
  | .hbm, ⟨4, _⟩ => ⟨S8x128x64, .bf16⟩
  | .hbm, ⟨5, _⟩ => ⟨S1024x2048, .f32⟩
  | .hbm, ⟨6, _⟩ => ⟨S1024x2048, .bf16⟩
  | .hbm, ⟨7, _⟩ => ⟨S2048x8192, .bf16⟩
  | .hbm, ⟨8, _⟩ => ⟨S8x128x8192, .f32⟩
  | .hbm, ⟨9, _⟩ => ⟨S8x128x8192, .f32⟩
  | .hbm, ⟨10, _⟩ => ⟨S32x8192, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1024x2048, .bf16⟩
  | .local _ .vmem, ⟨4, _⟩ => ⟨S8x128x64, .bf16⟩
  | .local _ .vmem, ⟨5, _⟩ => ⟨S8x128x64, .bf16⟩
  | .local _ .vmem, ⟨6, _⟩ => ⟨S2048x256, .bf16⟩
  | .local _ .vmem, ⟨7, _⟩ => ⟨S2048x256, .bf16⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S32x256, .f32⟩
  | .local _ .vmem, ⟨13, _⟩ => ⟨S32x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RouteRefIdeal.lean ====
abbrev S8192x2048 : Shape := ⟨2, ![8192, 2048]⟩
abbrev S1x2048 : Shape := ⟨2, ![1, 2048]⟩
abbrev S2048x1024 : Shape := ⟨2, ![2048, 1024]⟩
abbrev S8x128x64 : Shape := ⟨3, ![8, 128, 64]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S8192x8x2x64 : Shape := ⟨4, ![8192, 8, 2, 64]⟩
abbrev S8192x8x1x64 : Shape := ⟨4, ![8192, 8, 1, 64]⟩
abbrev S8192x8x64 : Shape := ⟨3, ![8192, 8, 64]⟩
abbrev S8x128x8192 : Shape := ⟨3, ![8, 128, 8192]⟩
abbrev S8192x8x128 : Shape := ⟨3, ![8192, 8, 128]⟩
abbrev S2048x8192 : Shape := ⟨2, ![2048, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x1024, .f32⟩
  | .hbm, ⟨3, _⟩ => ⟨S8x128x64, .bf16⟩
  | .hbm, ⟨4, _⟩ => ⟨S8x128x64, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x8x2x64, .f32⟩
  | .hbm, ⟨22, _⟩ => ⟨S8192x8x1x64, .f32⟩
  | .hbm, ⟨23, _⟩ => ⟨S8192x8x64, .f32⟩
  | .hbm, ⟨24, _⟩ => ⟨S8x128x64, .f32⟩
  | .hbm, ⟨25, _⟩ => ⟨S8x128x8192, .f32⟩
  | .hbm, ⟨26, _⟩ => ⟨S8192x8x128, .f32⟩
  | .hbm, ⟨27, _⟩ => ⟨S8192x8x1x64, .f32⟩
  | .hbm, ⟨28, _⟩ => ⟨S8192x8x64, .f32⟩
  | .hbm, ⟨29, _⟩ => ⟨S8x128x64, .f32⟩
  | .hbm, ⟨30, _⟩ => ⟨S8x128x8192, .f32⟩
  | .hbm, ⟨31, _⟩ => ⟨S8192x8x128, .f32⟩
  | .hbm, ⟨32, _⟩ => ⟨S2048x8192, .f32⟩
  | .hbm, ⟨33, _⟩ => ⟨S2048x8192, .bf16⟩
  | .hbm, ⟨34, _⟩ => ⟨S8x128x8192, .f32⟩
  | .hbm, ⟨35, _⟩ => ⟨S8x128x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Peer.lean ====
abbrev S2048x8192 : Shape := ⟨2, ![2048, 8192]⟩
abbrev S16384x2048 : Shape := ⟨2, ![16384, 2048]⟩
abbrev S8x128x8192 : Shape := ⟨3, ![8, 128, 8192]⟩
abbrev S32x8192 : Shape := ⟨2, ![32, 8192]⟩
abbrev S8192x2048 : Shape := ⟨2, ![8192, 2048]⟩
abbrev S1x2048 : Shape := ⟨2, ![1, 2048]⟩
abbrev S2048x512 : Shape := ⟨2, ![2048, 512]⟩
abbrev S1024x2048 : Shape := ⟨2, ![1024, 2048]⟩
abbrev S8x8x512 : Shape := ⟨3, ![8, 8, 512]⟩
abbrev S8x128x512 : Shape := ⟨3, ![8, 128, 512]⟩
abbrev S32x512 : Shape := ⟨2, ![32, 512]⟩
abbrev S512x2048 : Shape := ⟨2, ![512, 2048]⟩
abbrev S1024x512 : Shape := ⟨2, ![1024, 512]⟩
abbrev S1x128x512 : Shape := ⟨3, ![1, 128, 512]⟩
abbrev S128x512 : Shape := ⟨2, ![128, 512]⟩
abbrev S1x512 : Shape := ⟨2, ![1, 512]⟩
abbrev S1x8x512 : Shape := ⟨3, ![1, 8, 512]⟩
abbrev S8x512 : Shape := ⟨2, ![8, 512]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S512 : Shape := ⟨1, ![512]⟩
abbrev S512x1 : Shape := ⟨2, ![512, 1]⟩

abbrev nBuf : Space → Nat
  | .hbm => 11
  | .vmem => 21
  | .smem => 0
  | _ => 0

abbrev bufTy : (tb : Table) → Fin (tcTables nBuf tb) → BufTy
  | .hbm, ⟨0, _⟩ => ⟨S2048x8192, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S32x8192, .f32⟩
  | .hbm, ⟨6, _⟩ => ⟨S8192x2048, .f32⟩
  | .hbm, ⟨7, _⟩ => ⟨S1x2048, .f32⟩
  | .hbm, ⟨8, _⟩ => ⟨S16384x2048, .bf16⟩
  | .hbm, ⟨9, _⟩ => ⟨S16384x2048, .bf16⟩
  | .hbm, ⟨10, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S8x8x512, .f32⟩
  | .local _ .vmem, ⟨7, _⟩ => ⟨S8x8x512, .f32⟩
  | .local _ .vmem, ⟨8, _⟩ => ⟨S8x128x512, .f32⟩
  | .local _ .vmem, ⟨9, _⟩ => ⟨S8x128x512, .f32⟩
  | .local _ .vmem, ⟨10, _⟩ => ⟨S32x512, .f32⟩
  | .local _ .vmem, ⟨11, _⟩ => ⟨S32x512, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S8x8x512, .f32⟩
  | .local _ .vmem, ⟨18, _⟩ => ⟨S8x128x512, .f32⟩
  | .local _ .vmem, ⟨19, _⟩ => ⟨S1024x512, .f32⟩
  | .local _ .vmem, ⟨20, _⟩ => ⟨S1024x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PeerRefIdeal.lean ====
abbrev S2048x8192 : Shape := ⟨2, ![2048, 8192]⟩
abbrev S16384x2048 : Shape := ⟨2, ![16384, 2048]⟩
abbrev S8x128x8192 : Shape := ⟨3, ![8, 128, 8192]⟩
abbrev S32x8192 : Shape := ⟨2, ![32, 8192]⟩
abbrev S8192x2048 : Shape := ⟨2, ![8192, 2048]⟩
abbrev S1x2048 : Shape := ⟨2, ![1, 2048]⟩
abbrev S4x8x8192 : Shape := ⟨3, ![4, 8, 8192]⟩
abbrev S4x8x1x1x8192 : Shape := ⟨5, ![4, 8, 1, 1, 8192]⟩
abbrev S1x8x1x1x8192 : Shape := ⟨5, ![1, 8, 1, 1, 8192]⟩
abbrev S8x1x1x8192 : Shape := ⟨4, ![8, 1, 1, 8192]⟩
abbrev S8x128x1x8192 : Shape := ⟨4, ![8, 128, 1, 8192]⟩
abbrev S8x1x128x8192 : Shape := ⟨4, ![8, 1, 128, 8192]⟩
abbrev S8x128x128x8192 : Shape := ⟨4, ![8, 128, 128, 8192]⟩
abbrev S_ : Shape := ⟨0, ![]⟩
abbrev S128x128x8192 : Shape := ⟨3, ![128, 128, 8192]⟩
abbrev S16384x8192 : Shape := ⟨2, ![16384, 8192]⟩
abbrev S8192x16384 : Shape := ⟨2, ![8192, 16384]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S32x8192, .f32⟩
  | .hbm, ⟨6, _⟩ => ⟨S8192x2048, .f32⟩
  | .hbm, ⟨7, _⟩ => ⟨S1x2048, .f32⟩
  | .hbm, ⟨8, _⟩ => ⟨S4x8x8192, .f32⟩
  | .hbm, ⟨9, _⟩ => ⟨S4x8x1x1x8192, .f32⟩
  | .hbm, ⟨10, _⟩ => ⟨S1x8x1x1x8192, .f32⟩
  | .hbm, ⟨11, _⟩ => ⟨S8x1x1x8192, .f32⟩
  | .hbm, ⟨12, _⟩ => ⟨S1x8x1x1x8192, .f32⟩
  | .hbm, ⟨13, _⟩ => ⟨S8x1x1x8192, .f32⟩
  | .hbm, ⟨14, _⟩ => ⟨S1x8x1x1x8192, .f32⟩
  | .hbm, ⟨15, _⟩ => ⟨S8x1x1x8192, .f32⟩
  | .hbm, ⟨16, _⟩ => ⟨S1x8x1x1x8192, .f32⟩
  | .hbm, ⟨17, _⟩ => ⟨S8x1x1x8192, .f32⟩
  | .hbm, ⟨18, _⟩ => ⟨S8x128x1x8192, .f32⟩
  | .hbm, ⟨19, _⟩ => ⟨S8x1x128x8192, .f32⟩
  | .hbm, ⟨20, _⟩ => ⟨S8x128x128x8192, .f32⟩
  | .hbm, ⟨21, _⟩ => ⟨S8x128x128x8192, .f32⟩
  | .hbm, ⟨22, _⟩ => ⟨S8x128x128x8192, .f32⟩
  | .hbm, ⟨23, _⟩ => ⟨S8x128x128x8192, .f32⟩
  | .hbm, ⟨24, _⟩ => ⟨S8x128x128x8192, .f32⟩
  | .hbm, ⟨25, _⟩ => ⟨S8x128x128x8192, .f32⟩
  | .hbm, ⟨26, _⟩ => ⟨S8x128x128x8192, .f32⟩
  | .hbm, ⟨27, _⟩ => ⟨S8x128x128x8192, .f32⟩
  | .hbm, ⟨28, _⟩ => ⟨S8x128x128x8192, .f32⟩
  | .hbm, ⟨29, _⟩ => ⟨S8x128x128x8192, .f32⟩
  | .hbm, ⟨30, _⟩ => ⟨S8x128x128x8192, .f32⟩
  | .hbm, ⟨31, _⟩ => ⟨S8x128x128x8192, .i1⟩
  | .hbm, ⟨32, _⟩ => ⟨S_, .f32⟩
  | .hbm, ⟨33, _⟩ => ⟨S_, .f32⟩
  | .hbm, ⟨34, _⟩ => ⟨S8x128x128x8192, .f32⟩
  | .hbm, ⟨35, _⟩ => ⟨S8x128x128x8192, .f32⟩
  | .hbm, ⟨36, _⟩ => ⟨S_, .f32⟩
  | .hbm, ⟨37, _⟩ => ⟨S128x128x8192, .f32⟩
  | .hbm, ⟨38, _⟩ => ⟨S16384x8192, .f32⟩
  | .hbm, ⟨39, _⟩ => ⟨S2048x8192, .f32⟩
  | .hbm, ⟨40, _⟩ => ⟨S16384x8192, .f32⟩
  | .hbm, ⟨41, _⟩ => ⟨S16384x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S16384x8192, .f32⟩
  | .hbm, ⟨47, _⟩ => ⟨S_, .f32⟩
  | .hbm, ⟨48, _⟩ => ⟨S16384x8192, .f32⟩
  | .hbm, ⟨49, _⟩ => ⟨S16384x8192, .f32⟩
  | .hbm, ⟨50, _⟩ => ⟨S16384x8192, .f32⟩
  | .hbm, ⟨51, _⟩ => ⟨S_, .f32⟩
  | .hbm, ⟨52, _⟩ => ⟨S16384x8192, .f32⟩
  | .hbm, ⟨53, _⟩ => ⟨S16384x8192, .f32⟩
  | .hbm, ⟨54, _⟩ => ⟨S_, .f32⟩
  | .hbm, ⟨55, _⟩ => ⟨S16384x8192, .f32⟩
  | .hbm, ⟨56, _⟩ => ⟨S16384x8192, .f32⟩
  | .hbm, ⟨57, _⟩ => ⟨S16384x8192, .f32⟩
  | .hbm, ⟨58, _⟩ => ⟨S16384x8192, .f32⟩
  | .hbm, ⟨59, _⟩ => ⟨S8192x16384, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Proof.Rows.lean ====
/-
  The functions of one row that the layer's calls are made of, over the extended reals: the root-mean-square normal
  form, the softmax of a row, one attention head of one query row. The kernels and the references are both read in
  these words (one module per call), so that their equation is one of arguments and not of formulas.
-/
module

public import Idealize.ShloMosaic.Lib.Pointwise
public import Idealize.ShloMosaic.Lib.Pipeline.Value

@[expose] public section

noncomputable section

namespace Cert.Rows

open Idealize.ShloMosaic

/-- The zero offset of a rank-two rectangle. -/
theorem hz : (![0, 0] : Fin 2 → Nat) = fun _ => 0 := funext fun a => by fin_cases a <;> rfl

/-- The value of a float32 word. -/
abbrev f32 (b : BitVec 32) : EReal := Ideal.ofBits FTy.f32 b

/-- Entry `k` of the row `x` divided by the root of its mean square (`D` the number of entries, plus the layer's
    epsilon), times the entry's gain. -/
def rms {n : Nat} (D : EReal) (x g : Fin n → EReal) (k : Fin n) : EReal :=
  x k * Ideal.rsqrt (Ideal.div (∑ c, x c * x c) D + f32 897988541#32) * g k

/-- Entry `j` of the row `y` times the matrix `w`. -/
def vecMat {n p : Nat} (y : Fin n → EReal) (w : Fin n → Fin p → EReal) (j : Fin p) : EReal := ∑ k, y k * w k j

/-- The largest entry of a row (no less than minus infinity). -/
def rowMax {n : Nat} (s : Fin n → EReal) : EReal := Finset.fold max (f32 4286578688#32) s Finset.univ

/-- Entry `j` of the softmax of a row, its largest entry subtracted first. -/
def softmax {n : Nat} (s : Fin n → EReal) (j : Fin n) : EReal :=
  Ideal.div (Ideal.exp (s j - rowMax s)) (∑ i, Ideal.exp (s i - rowMax s))

/-- The largest entry is no less than the fold's start, so taking the maximum with it again changes nothing. -/
theorem max_rowMax {n : Nat} (s : Fin n → EReal) : max (f32 4286578688#32) (rowMax s) = rowMax s :=
  max_eq_right ((Finset.le_fold_max _).mpr (Or.inl le_rfl))

/-- One attention head for one query row `q`: the scores against the keys `K`, scaled, their softmax, and the values
    `V` averaged with it. -/
def head {d n : Nat} (q : Fin d → EReal) (K V : Fin n → Fin d → EReal) (l : Fin d) : EReal :=
  ∑ j, softmax (fun i => (∑ e, q e * K i e) * f32 1026884851#32) j * V j l

/-- A head depends on the entries of its arguments alone. -/
theorem head_congr {d n : Nat} {q q' : Fin d → EReal} {K K' V V' : Fin n → Fin d → EReal} (hq : ∀ e, q e = q' e)
    (hK : ∀ i e, K i e = K' i e) (hV : ∀ i e, V i e = V' i e) (l : Fin d) : head q K V l = head q' K' V' l := by
  rw [show q = q' from funext hq, show K = K' from funext fun i => funext (hK i), show V = V' from funext fun i => funext (hV i)]

end Cert.Rows

end
-- ==== Proof.AttnRow.lean ====
/-
  The attention over the memory for one query row: what the call computes, and that the reference computes it.
-/
module

public import proofs.«01_k».proof.Proof.Gen.AttnRefIdeal.Read
public import proofs.«01_k».proof.Proof.Rows

@[expose] public section

noncomputable section

namespace Cert.AttnProof

open Idealize.ShloMosaic Cert.Rows

/-- Column `e` of head `h`. -/
def col (h : Fin 4) (e : Fin 512) : Fin 2048 := ⟨h.val * 512 + e.val, by omega⟩

/-- Column `e` of head `h` among the values, which stand behind the keys. -/
def vcol (h : Fin 4) (e : Fin 512) : Fin 4096 := ⟨2048 + h.val * 512 + e.val, by omega⟩

/-- The head that column `j` is in. -/
def hd (j : Fin 2048) : Fin 4 := ⟨j.val / 512, by omega⟩

/-- The place of column `j` in its head. -/
def en (j : Fin 2048) : Fin 512 := ⟨j.val % 512, by omega⟩

/-- The row `x` with the attention of its four heads added: queries from the row's normal form, keys `K` and values `V`
    by head, the heads' outputs side by side times the output weights. -/
def attnRow (x g : Fin 2048 → EReal) (wq : Fin 2048 → Fin 2048 → EReal) (K V : Fin 4 → Fin 256 → Fin 512 → EReal)
    (wo : Fin 2048 → Fin 2048 → EReal) (l : Fin 2048) : EReal :=
  x l + ∑ j, head (fun e => vecMat (rms (f32 1157627904#32) x g) wq (col (hd j) e)) (K (hd j)) (V (hd j)) (en j) * wo j l

/-- It depends on the entries of its arguments alone. -/
theorem attnRow_congr {x x' g g' : Fin 2048 → EReal} {wq wq' : Fin 2048 → Fin 2048 → EReal}
    {K K' V V' : Fin 4 → Fin 256 → Fin 512 → EReal} {wo wo' : Fin 2048 → Fin 2048 → EReal} (hx : ∀ k, x k = x' k)
    (hg : ∀ k, g k = g' k) (hq : ∀ k j, wq k j = wq' k j) (hK : ∀ h i e, K h i e = K' h i e) (hV : ∀ h i e, V h i e = V' h i e)
    (ho : ∀ k j, wo k j = wo' k j) (l : Fin 2048) : attnRow x g wq K V wo l = attnRow x' g' wq' K' V' wo' l := by
  rw [show x = x' from funext hx, show g = g' from funext hg, show wq = wq' from funext fun k => funext (hq k),
    show K = K' from funext fun h => funext fun i => funext (hK h i),
    show V = V' from funext fun h => funext fun i => funext (hV h i), show wo = wo' from funext fun k => funext (ho k)]

/-- Row `r` of the whole array: the rows of a sequence attend to that sequence's 256 memory rows. -/
def attn (x : Fin 8192 → Fin 2048 → EReal) (g : Fin 2048 → EReal) (wq : Fin 2048 → Fin 2048 → EReal)
    (kv : Fin 512 → Fin 4096 → EReal) (wo : Fin 2048 → Fin 2048 → EReal) (r : Fin 8192) (l : Fin 2048) : EReal :=
  attnRow (x r) g wq (fun h i e => kv ⟨r.val / 4096 * 256 + i.val, by omega⟩ ⟨h.val * 512 + e.val, by omega⟩)
    (fun h i e => kv ⟨r.val / 4096 * 256 + i.val, by omega⟩ (vcol h e)) wo l

section Reference

open Cert.AttnRefIdeal Cert.AttnRefIdeal.Read

variable (x : FVec Ideal S8192x2048 .f32) (g : FVec Ideal S1x2048 .f32) (wq : FVec Ideal S2048x2048 .f32)
  (kv : Vec Ideal S512x4096 .bf16) (wo : FVec Ideal S2048x2048 .f32)

/-- The normal form of a row. -/
theorem v13_apply (b : Fin 2) (r : Fin 4096) (k : Fin 2048) :
    val_main_v13 (F := Ideal) x g (ix3 b r k)
      = rms (f32 1157627904#32) (fun k => x (ix2 ⟨b.val * 4096 + r.val, by omega⟩ k)) (fun k => g (ix2 0 k)) k := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise []
  rfl

/-- The queries by head. -/
theorem v15_apply (b : Fin 2) (r : Fin 4096) (h : Fin 4) (e : Fin 512) :
    val_main_v15 (F := Ideal) x g wq (ix4 b r h e)
      = vecMat (rms (f32 1157627904#32) (fun k => x (ix2 ⟨b.val * 4096 + r.val, by omega⟩ k)) (fun k => g (ix2 0 k)))
          (fun k j => wq (ix2 k j)) (col h e) := by
  unfold val_main_v15 val_main_v14 vecMat
  simp only [← v13_apply x g b r]
  generalize val_main_v13 (F := Ideal) x g = s
  pointwise [dot_S2x4096x2048_S2048x2048_S2x4096x2048_2_0_01_1_n_n]
  rfl

/-- The keys by head. -/
theorem v19_apply (b : Fin 2) (i : Fin 256) (h : Fin 4) (e : Fin 512) :
    val_main_v19 (F := Ideal) kv (ix4 b i h e)
      = kv (ix2 ⟨b.val * 256 + i.val, by omega⟩ ⟨h.val * 512 + e.val, by omega⟩) := by
  unfold val_main_v19 val_main_v18 val_main_v17 val_main_v16
  pointwise []

/-- The values by head. -/
theorem v21_apply (b : Fin 2) (i : Fin 256) (h : Fin 4) (e : Fin 512) :
    val_main_v21 (F := Ideal) kv (ix4 b i h e) = kv (ix2 ⟨b.val * 256 + i.val, by omega⟩ (vcol h e)) := by
  unfold val_main_v21 val_main_v20 val_main_v17 val_main_v16
  pointwise []
  exact congrArg kv (congrArg _ (Fin.ext (by simp only [vcol])))

/-- The scaled scores. -/
theorem v24_apply (b : Fin 2) (h : Fin 4) (r : Fin 4096) (i : Fin 256) :
    val_main_v24 (F := Ideal) x g wq kv (ix4 b h r i)
      = (∑ e, val_main_v15 (F := Ideal) x g wq (ix4 b r h e) * val_main_v19 (F := Ideal) kv (ix4 b i h e)) * f32 1026884851#32 := by
  unfold val_main_v24 val_main_v23 val_main_cst_2 val_main_v22
  generalize val_main_v15 (F := Ideal) x g wq = s
  generalize val_main_v19 (F := Ideal) kv = s2
  pointwise [dot_S2x4096x4x512_S2x256x4x512_S2x4x4096x256_3_3_1_1_02_02]

/-- A query's largest score. -/
theorem v25_apply (b : Fin 2) (h : Fin 4) (r : Fin 4096) :
    val_main_v25 (F := Ideal) x g wq kv (ix3 b h r) = rowMax (fun i => val_main_v24 (F := Ideal) x g wq kv (ix4 b h r i)) := by
  unfold val_main_v25 val_main_cst_3 rowMax
  generalize val_main_v24 (F := Ideal) x g wq kv = s
  pointwise []

/-- The same, copied to each score. -/
theorem v29_apply (b : Fin 2) (h : Fin 4) (r : Fin 4096) (i : Fin 256) :
    val_main_v29 (F := Ideal) x g wq kv (ix4 b h r i) = rowMax (fun i => val_main_v24 (F := Ideal) x g wq kv (ix4 b h r i)) := by
  have e : idx_main_v28 (idx_main_v29 (ix4 b h r i)) = ix3 b h r :=
    funext fun a => by match a with | ⟨0, _⟩ => rfl | ⟨1, _⟩ => rfl | ⟨2, _⟩ => rfl
  rw [val_main_v29_apply, val_main_v28_apply, val_main_v27_apply, val_main_v26_apply, e, v25_apply]
  exact max_rowMax _

/-- The exponentials. -/
theorem v31_apply (b : Fin 2) (h : Fin 4) (r : Fin 4096) (i : Fin 256) :
    val_main_v31 (F := Ideal) x g wq kv (ix4 b h r i)
      = Ideal.exp (val_main_v24 (F := Ideal) x g wq kv (ix4 b h r i)
          - rowMax (fun i => val_main_v24 (F := Ideal) x g wq kv (ix4 b h r i))) := by
  rw [← v29_apply (i := i)]
  unfold val_main_v31 val_main_v30
  generalize val_main_v29 (F := Ideal) x g wq kv = s
  generalize val_main_v24 (F := Ideal) x g wq kv = s2
  pointwise []

/-- Their sum, copied to each. -/
theorem v34_apply (b : Fin 2) (h : Fin 4) (r : Fin 4096) (i : Fin 256) :
    val_main_v34 (F := Ideal) x g wq kv (ix4 b h r i) = ∑ j, val_main_v31 (F := Ideal) x g wq kv (ix4 b h r j) := by
  unfold val_main_v34 val_main_v33 val_main_v32 val_main_cst_5
  generalize val_main_v31 (F := Ideal) x g wq kv = s
  pointwise []

/-- Their softmax over the memory rows. -/
theorem v35_apply (b : Fin 2) (h : Fin 4) (r : Fin 4096) (i : Fin 256) :
    val_main_v35 (F := Ideal) x g wq kv (ix4 b h r i)
      = softmax (fun i => val_main_v24 (F := Ideal) x g wq kv (ix4 b h r i)) i := by
  have e : val_main_v35 (F := Ideal) x g wq kv (ix4 b h r i)
      = Ideal.div (val_main_v31 (F := Ideal) x g wq kv (ix4 b h r i)) (val_main_v34 (F := Ideal) x g wq kv (ix4 b h r i)) := by
    unfold val_main_v35
    generalize val_main_v31 (F := Ideal) x g wq kv = s
    generalize val_main_v34 (F := Ideal) x g wq kv = s2
    pointwise []
  rw [e, v34_apply, softmax]
  simp only [v31_apply]

/-- The heads' outputs. -/
theorem v36_apply (b : Fin 2) (h : Fin 4) (e : Fin 512) (r : Fin 4096) :
    val_main_v36 (F := Ideal) x g wq kv (ix4 b h e r)
      = ∑ i, val_main_v35 (F := Ideal) x g wq kv (ix4 b h r i) * val_main_v21 (F := Ideal) kv (ix4 b i h e) := by
  unfold val_main_v36
  generalize val_main_v35 (F := Ideal) x g wq kv = s
  generalize val_main_v21 (F := Ideal) kv = s2
  pointwise [dot_S2x256x4x512_S2x4x4096x256_S2x4x512x4096_1_3_3_2_02_01]
  exact Finset.sum_congr rfl fun i _ => mul_comm _ _

/-- The reference's result at an entry. -/
theorem ref_apply (r : Fin 8192) (l : Fin 2048) :
    val_main_v41 (F := Ideal) x g wq kv wo (ix2 r l)
      = attn (fun r k => x (ix2 r k)) (fun k => g (ix2 0 k)) (fun k j => wq (ix2 k j)) (fun r j => kv (ix2 r j))
          (fun k j => wo (ix2 k j)) r l := by
  have e : (⟨r.val / 4096 * 4096 + r.val % 4096, by omega⟩ : Fin 8192) = r := Fin.ext (by show r.val / 4096 * 4096 + r.val % 4096 = _; omega)
  unfold attn attnRow head
  have h (j : Fin 2048) := v36_apply x g wq kv ⟨r.val / 4096, by omega⟩ (hd j) (en j) ⟨r.val % 4096, by omega⟩
  simp only [v35_apply, v24_apply, v15_apply, v19_apply, v21_apply, e] at h
  simp only [← h]
  unfold val_main_v41 val_main_v40 val_main_v39 val_main_v38 val_main_v37 val_main_v0
  generalize val_main_v36 (F := Ideal) x g wq kv = s
  pointwise [dot_S2x4096x2048_S2048x2048_S2x4096x2048_2_0_01_1_n_n]
  rfl

end Reference

end Cert.AttnProof

end
-- ==== Proof.Attn.lean ====
/-
  The attention call: its result array is `attn` of its arguments, as the reference's is (`AttnRow.ref_apply`).
-/
module

public import proofs.«01_k».proof.Defs
public import proofs.«01_k».proof.Proof.Gen.AttnIdeal.Value
public import proofs.«01_k».proof.Proof.AttnRow
public import Idealize.ShloMosaic.Lib.Quiescent

@[expose] public section

noncomputable section

namespace Cert.AttnProof

open Idealize.ShloMosaic Idealize.ShloMosaic.TcCoe Idealize.SL.Sem Cert.Rows
open Idealize.ShloMosaic.Pipeline (Dat)

section Kernel

open Cert.AttnIdeal Cert.AttnIdeal.Gen

/-! ## One block -/

section Block

variable (x : Vec Ideal S512x2048 .f32) (g : Vec Ideal S1x2048 .f32) (wq : Vec Ideal S2048x2048 .bf16)
  (K V : Vec Ideal S256x2048 .bf16) (wo : Vec Ideal S2048x2048 .bf16)

/-- The queries. -/
theorem pay2_apply (r : Fin 512) (j : Fin 2048) :
    k0_pay2 (F := Ideal) x g wq (ix2 r j)
      = vecMat (rms (f32 1157627904#32) (fun k => x (ix2 r k)) fun k => g (ix2 0 k)) (fun k j => wq (ix2 k j)) j := by
  unfold_payloads
  pointwise [dot_S512x2048_S2048x2048_S512x2048_1_0_0_1_n_n]
  rfl

/-- A head's output from its queries, keys and values. -/
theorem pay5_apply (q : FVec Ideal S512x512 .bf16) (k v : Vec Ideal S256x512 .bf16) (r : Fin 512) (e : Fin 512) :
    k0_pay5 (F := Ideal) q k v (ix2 r e)
      = head (fun e => q (ix2 r e)) (fun i e => k (ix2 i e)) (fun i e => v (ix2 i e)) e := by
  unfold_payloads
  pointwise [dot_S512x256_S256x512_S512x512_1_0_0_1_n_n, dot_S512x512_S256x512_S512x256_1_1_0_0_n_n]
  rfl

/-- The first head. -/
theorem pay3_apply (k v : Vec Ideal S256x512 .bf16) (r : Fin 512) (e : Fin 512) :
    k0_pay3 (F := Ideal) x g wq k v (ix2 r e)
      = head (fun e => k0_pay2 (F := Ideal) x g wq (ix2 r (col 0 e))) (fun i e => k (ix2 i e)) (fun i e => v (ix2 i e)) e := by
  unfold k0_pay3
  generalize k0_pay2 (F := Ideal) x g wq = q
  pointwise [dot_S512x256_S256x512_S512x512_1_0_0_1_n_n, dot_S512x512_S256x512_S512x256_1_1_0_0_n_n]
  have hc (e : Fin 512) : (⟨e.val, by omega⟩ : Fin 2048) = col 0 e := Fin.ext (by simp [col])
  simp only [hc]
  rfl

/-- The second head's queries. -/
theorem pay4_apply (r : Fin 512) (e : Fin 512) :
    k0_pay4 (F := Ideal) x g wq (ix2 r e) = k0_pay2 (F := Ideal) x g wq (ix2 r (col 1 e)) := by
  unfold k0_pay4
  generalize k0_pay2 (F := Ideal) x g wq = q
  pointwise []
  rfl

/-- The third head. -/
theorem pay6_apply (q : FVec Ideal S512x2048 .f32) (k v : Vec Ideal S256x512 .bf16) (r : Fin 512) (e : Fin 512) :
    k0_pay6 (F := Ideal) q k v (ix2 r e)
      = head (fun e => q (ix2 r (col 2 e))) (fun i e => k (ix2 i e)) (fun i e => v (ix2 i e)) e := by
  unfold k0_pay6
  pointwise [dot_S512x256_S256x512_S512x512_1_0_0_1_n_n, dot_S512x512_S256x512_S512x256_1_1_0_0_n_n]
  rfl

/-- The last head's scores. -/
theorem pay7_apply (q : FVec Ideal S512x2048 .f32) (k : Vec Ideal S256x512 .bf16) (r : Fin 512) (i : Fin 256) :
    k0_pay7 (F := Ideal) q k (ix2 r i) = ∑ e, q (ix2 r (col 3 e)) * k (ix2 i e) := by
  unfold k0_pay7
  pointwise [dot_S512x512_S256x512_S512x256_1_1_0_0_n_n]
  rfl

/-- The four heads' outputs side by side, the last of them from its scores, times the output weights, added to the rows. -/
theorem pay1_apply (o0 o1 o2 : FVec Ideal S512x512 .bf16) (s : FVec Ideal S512x256 .f32) (v : Vec Ideal S256x512 .bf16)
    (r : Fin 512) (l : Fin 2048) (o : Fin 4 → Fin 512 → EReal) (h0 : ∀ e, o0 (ix2 r e) = o 0 e) (h1 : ∀ e, o1 (ix2 r e) = o 1 e)
    (h2 : ∀ e, o2 (ix2 r e) = o 2 e) (h3 : ∀ e, ∑ j, softmax (fun i => s (ix2 r i) * f32 1026884851#32) j * v (ix2 j e) = o 3 e) :
    k0_pay1 (F := Ideal) x o0 o1 o2 s v wo (ix2 r l) = x (ix2 r l) + ∑ j, o (hd j) (en j) * wo (ix2 j l) := by
  unfold k0_pay1
  simp only [softmax, rowMax] at h3
  pointwise [dot_S512x256_S256x512_S512x512_1_0_0_1_n_n, dot_S512x2048_S2048x2048_S512x2048_1_0_0_1_n_n]
  refine congrArg _ (Finset.sum_congr rfl fun j _ => congrArg (· * wo (ix2 j l)) ?_)
  have hj := j.isLt
  have key (h : Fin 4) (e : Fin 512) (he : j.val = h.val * 512 + e.val) : o h e = o (hd j) (en j) := by
    congr 1
    · exact Fin.ext (by show h.val = j.val / 512; omega)
    · exact Fin.ext (by show e.val = j.val % 512; omega)
  by_cases a : j.val < 512
  · rw [dif_pos a]
    exact (h0 _).trans (key 0 _ (by show j.val = 0 * 512 + j.val; omega))
  rw [dif_neg a]
  by_cases b : j.val - 512 < 512
  · rw [dif_pos b]
    exact (h1 _).trans (key 1 _ (by show j.val = 1 * 512 + (j.val - 512); omega))
  rw [dif_neg b]
  by_cases c : j.val - 512 - 512 < 512
  · rw [dif_pos c]
    exact (h2 _).trans (key 2 _ (by show j.val = 2 * 512 + (j.val - 512 - 512); omega))
  rw [dif_neg c]
  exact (h3 _).trans (key 3 _ (by show j.val = 3 * 512 + (j.val - 512 - 512 - 512); omega))

/-- Columns of a block of keys or values, loaded a head at a time. -/
theorem ld0 (i : Fin 256) (e : Fin 512) : View.ld K r0_3 (ix2 i e) = K (ix2 i (col 0 e)) := by
  pointwise [r0_3]
  refine congrArg K (congrArg _ (Fin.ext ?_))
  simp only [col]; omega
theorem ld1 (i : Fin 256) (e : Fin 512) : View.ld K r0_4 (ix2 i e) = K (ix2 i (col 1 e)) := by
  pointwise [r0_4]
  refine congrArg K (congrArg _ (Fin.ext ?_))
  simp only [col]; omega
theorem ld2 (i : Fin 256) (e : Fin 512) : View.ld K r0_5 (ix2 i e) = K (ix2 i (col 2 e)) := by
  pointwise [r0_5]
  refine congrArg K (congrArg _ (Fin.ext ?_))
  simp only [col]; omega
theorem ld3 (i : Fin 256) (e : Fin 512) : View.ld K r0_6 (ix2 i e) = K (ix2 i (col 3 e)) := by
  pointwise [r0_6]
  refine congrArg K (congrArg _ (Fin.ext ?_))
  simp only [col]; omega

/-- One block of the kernel at an entry. -/
theorem out_apply (r : Fin 512) (l : Fin 2048) :
    out0_6 (F := Ideal) x g wq K V wo (ix2 r l)
      = attnRow (fun k => x (ix2 r k)) (fun k => g (ix2 0 k)) (fun k j => wq (ix2 k j)) (fun h i e => K (ix2 i (col h e)))
          (fun h i e => V (ix2 i (col h e))) (fun k j => wo (ix2 k j)) l := by
  unfold_out out0_6
  rw [View.canon_unit_zero hz, show View.ld x r0_0 = x from View.ld_unit_zero hz _ x, show View.ld g r0_1 = g from View.ld_unit_zero hz _ g,
    show View.ld wq r0_2 = wq from View.ld_unit_zero hz _ wq, show View.ld wo r0_2 = wo from View.ld_unit_zero hz _ wo]
  unfold attnRow
  refine pay1_apply x wo _ _ _ _ _ r l (fun h e => head (fun e => vecMat (rms (f32 1157627904#32) (fun k => x (ix2 r k)) fun k => g (ix2 0 k)) (fun k j => wq (ix2 k j)) (col h e)) (fun i e => K (ix2 i (col h e)))
          (fun i e => V (ix2 i (col h e))) e) ?_ ?_ ?_ ?_
  · intro e
    exact (pay3_apply x g wq _ _ r e).trans (head_congr (fun e => pay2_apply x g wq r (col 0 e)) (ld0 K) (ld0 V) e)
  · intro e
    exact (pay5_apply _ _ _ r e).trans (head_congr (fun e => (pay4_apply x g wq r e).trans (pay2_apply x g wq r (col 1 e))) (ld1 K) (ld1 V) e)
  · intro e
    exact (pay6_apply _ _ _ r e).trans (head_congr (fun e => pay2_apply x g wq r (col 2 e)) (ld2 K) (ld2 V) e)
  · intro e
    simp only [pay7_apply]
    exact head_congr (fun e => pay2_apply x g wq r (col 3 e)) (ld3 K) (ld3 V) e

end Block

/-! ## The arrays -/

variable (m : (ℓ : Loc nD τ sig) → Buf (Elt Ideal) ℓ) (ρ : Dev nD → PrngReg)

/-- The kernel's result array. -/
abbrev G (c : Dev nD) : Buf (Elt Ideal) ((c : Thread nD τ).loc main_v2) := fun i : S8192x2048.Idx =>
  attn (fun r k => m ((c : Thread nD τ).loc main_arg0) (ix2 r k)) (fun k => m ((c : Thread nD τ).loc main_arg1) (ix2 0 k))
    (fun k j => m ((c : Thread nD τ).loc main_arg2) (ix2 k j)) (fun r j => m ((c : Thread nD τ).loc main_arg3) (ix2 r j))
    (fun k j => m ((c : Thread nD τ).loc main_arg4) (ix2 k j)) (i 0) (i 1)

/-- Where each window's block lies at a grid point: the rows and the result move with the point, the keys and values with
    its sequence, the weights not at all. -/
theorem idx_facts : ∀ t : Fin grid0.N, t.val < 16 ∧ (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val / 8 ∧ win0_3.index t 1 = 0) ∧ (win0_4.index t 0 = t.val / 8 ∧ win0_4.index t 1 = 1)
    ∧ (win0_5.index t 0 = 0 ∧ win0_5.index t 1 = 0) ∧ (win0_6.index t 0 = t.val ∧ win0_6.index t 1 = 0) := by decide +kernel

/-- The query weights as the kernel reads them: those of the argument, whose cast is the identity here. -/
theorem V_wq (c : Dev nD) (i : S2048x2048.Idx) : V m c main_v0 i = m ((c : Thread nD τ).loc main_arg2) i := by
  unfold V hostOps0
  after_results_simp
  rfl

/-- The output weights likewise. -/
theorem V_wo (c : Dev nD) (i : S2048x2048.Idx) : V m c main_v1 i = m ((c : Thread nD τ).loc main_arg4) i := by
  unfold V hostOps0
  after_results_simp
  rfl

theorem iblk0 (c : Dev nD) (t : Fin cfg0.N) (r : Fin 512) (k : Fin 2048) (R : Fin 8192) (hR : R.val = t.val * 512 + r.val) :
    iblk m c 0 t (ix2 r k) = m ((c : Thread nD τ).loc main_arg0) (ix2 R k) := by
  have h := idx_facts t
  show V m c main_arg0 ((win0_0.rect t).emb (ix2 r k)) = _
  rw [V_main_arg0]
  refine congrArg (m ((c : Thread nD τ).loc main_arg0)) (funext fun a => Fin.ext ?_)
  refine (win0_0.rect_emb_val t (ix2 r k) a).trans ?_
  match a with
  | ⟨0, _⟩ => show win0_0.index t 0 * 512 + r.val = R.val; omega
  | ⟨1, _⟩ => show win0_0.index t 1 * 2048 + k.val = k.val; omega

theorem iblk1 (c : Dev nD) (t : Fin cfg0.N) (k : Fin 2048) :
    iblk m c 1 t (ix2 0 k) = m ((c : Thread nD τ).loc main_arg1) (ix2 0 k) := by
  have h := idx_facts t
  show V m c main_arg1 ((win0_1.rect t).emb (ix2 0 k)) = _
  rw [V_main_arg1]
  refine congrArg (m ((c : Thread nD τ).loc main_arg1)) (funext fun a => Fin.ext ?_)
  refine (win0_1.rect_emb_val t (ix2 0 k) a).trans ?_
  match a with
  | ⟨0, _⟩ => show win0_1.index t 0 * 1 + 0 = 0; omega
  | ⟨1, _⟩ => show win0_1.index t 1 * 2048 + k.val = k.val; omega

theorem iblk2 (c : Dev nD) (t : Fin cfg0.N) (k j : Fin 2048) :
    iblk m c 2 t (ix2 k j) = m ((c : Thread nD τ).loc main_arg2) (ix2 k j) := by
  have h := idx_facts t
  show V m c main_v0 ((win0_2.rect t).emb (ix2 k j)) = _
  rw [V_wq]
  refine congrArg (m ((c : Thread nD τ).loc main_arg2)) (funext fun a => Fin.ext ?_)
  refine (win0_2.rect_emb_val t (ix2 k j) a).trans ?_
  match a with
  | ⟨0, _⟩ => show win0_2.index t 0 * 2048 + k.val = k.val; omega
  | ⟨1, _⟩ => show win0_2.index t 1 * 2048 + j.val = j.val; omega

theorem iblk3 (c : Dev nD) (t : Fin cfg0.N) (i : Fin 256) (j : Fin 2048) (I : Fin 512) (J : Fin 4096)
    (hI : I.val = t.val / 8 * 256 + i.val) (hJ : J.val = j.val) :
    iblk m c 3 t (ix2 i j) = m ((c : Thread nD τ).loc main_arg3) (ix2 I J) := by
  have h := idx_facts t
  show V m c main_arg3 ((win0_3.rect t).emb (ix2 i j)) = _
  rw [V_main_arg3]
  refine congrArg (m ((c : Thread nD τ).loc main_arg3)) (funext fun a => Fin.ext ?_)
  refine (win0_3.rect_emb_val t (ix2 i j) a).trans ?_
  match a with
  | ⟨0, _⟩ => show win0_3.index t 0 * 256 + i.val = I.val; omega
  | ⟨1, _⟩ => show win0_3.index t 1 * 2048 + j.val = J.val; omega

theorem iblk4 (c : Dev nD) (t : Fin cfg0.N) (i : Fin 256) (j : Fin 2048) (I : Fin 512) (J : Fin 4096)
    (hI : I.val = t.val / 8 * 256 + i.val) (hJ : J.val = 2048 + j.val) :
    iblk m c 4 t (ix2 i j) = m ((c : Thread nD τ).loc main_arg3) (ix2 I J) := by
  have h := idx_facts t
  show V m c main_arg3 ((win0_4.rect t).emb (ix2 i j)) = _
  rw [V_main_arg3]
  refine congrArg (m ((c : Thread nD τ).loc main_arg3)) (funext fun a => Fin.ext ?_)
  refine (win0_4.rect_emb_val t (ix2 i j) a).trans ?_
  match a with
  | ⟨0, _⟩ => show win0_4.index t 0 * 256 + i.val = I.val; omega
  | ⟨1, _⟩ => show win0_4.index t 1 * 2048 + j.val = J.val; omega

theorem iblk5 (c : Dev nD) (t : Fin cfg0.N) (k j : Fin 2048) :
    iblk m c 5 t (ix2 k j) = m ((c : Thread nD τ).loc main_arg4) (ix2 k j) := by
  have h := idx_facts t
  show V m c main_v1 ((win0_5.rect t).emb (ix2 k j)) = _
  rw [V_wo]
  refine congrArg (m ((c : Thread nD τ).loc main_arg4)) (funext fun a => Fin.ext ?_)
  refine (win0_5.rect_emb_val t (ix2 k j) a).trans ?_
  match a with
  | ⟨0, _⟩ => show win0_5.index t 0 * 2048 + k.val = k.val; omega
  | ⟨1, _⟩ => show win0_5.index t 1 * 2048 + j.val = j.val; omega

/-- What point `t` writes back is block `t` of `G`. -/
theorem flushed_eq (c : Dev nD) (t : Fin cfg0.N) :
    (dats m 0 c).flushed 6 t = (win0_6.blk t).view.read (Elt Ideal) (G m c) := by
  rw [Value.flushed6]
  funext y
  have h := idx_facts t
  obtain ⟨r, l, rfl⟩ : ∃ (r : Fin 512) (l : Fin 2048), y = ix2 r l := ⟨y 0, y 1, eq_ix2 y⟩
  obtain ⟨R, hR⟩ : ∃ R : Fin 8192, R.val = t.val * 512 + r.val := ⟨⟨t.val * 512 + r.val, by omega⟩, rfl⟩
  have e : (win0_6.rect t).emb (ix2 r l) = (ix2 R l : S8192x2048.Idx) := funext fun a => Fin.ext (by
    refine (win0_6.rect_emb_val t (ix2 r l) a).trans ?_
    match a with
    | ⟨0, _⟩ => show win0_6.index t 0 * 512 + r.val = R.val; omega
    | ⟨1, _⟩ => show win0_6.index t 1 * 2048 + l.val = l.val; omega)
  show out0_6 (F := Ideal) (iblk m c 0 t) (iblk m c 1 t) (iblk m c 2 t) (iblk m c 3 t) (iblk m c 4 t) (iblk m c 5 t) (ix2 r l)
    = G m c ((win0_6.rect t).emb (ix2 r l))
  rw [e, out_apply]
  show _ = attn _ _ _ _ _ R l
  unfold attn
  refine attnRow_congr (fun k => iblk0 m c t r k R hR) (iblk1 m c t) (iblk2 m c t) (fun h' i e => ?_) (fun h' i e => ?_) (iblk5 m c t) l
  · refine iblk3 m c t i (col h' e) _ _ ?_ rfl
    show R.val / 4096 * 256 + i.val = _; omega
  · refine iblk4 m c t i (col h' e) _ _ ?_ ?_
    · show R.val / 4096 * 256 + i.val = _; omega
    · simp only [vcol, col]; omega

/-- The sixteen blocks of rows cover the result. -/
theorem cover (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0 : Nat) / 512 := ⟨⟨(i 0 : Nat) / 512, by omega⟩, rfl⟩
  have h := idx_facts t
  refine ⟨t, flush0_6 t, ?_⟩
  show i ∈ ((View.whole main_v2).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512; omega
  | ⟨1, _⟩ => show win0_6.index t 1 * 2048 ≤ (i 1 : Nat) ∧ (i 1 : Nat) < win0_6.index t 1 * 2048 + 2048; omega

/-- The kernel's result array after the run. -/
theorem final (c : Dev nD) : (dats m 0 c).arrAt 6 cfg0.N = G m c :=
  (dats m 0 c).arrAt_eq_of_cover 6 (G m c) (fun t _ => flushed_eq m c t) cover

end Kernel

/-- The claim: from the same arguments the kernel and the reference end with the same array. -/
theorem algebraic : Cert.algebraic_AttnIdeal_AttnRefIdeal := by
  intro m ρ m' ρ' _ hagree
  refine ⟨fun c => G m c, ?_, ?_⟩
  · exact (θ_run Cert.AttnIdeal.defs _ _).mono (fun _ h c => ⟨(h c).1.trans (final m c), (h c).2⟩)
      (Cert.AttnIdeal.Value.run_blocks (F := Ideal) m ρ)
  · refine (θ_run Cert.AttnRefIdeal.defs _ _).mono (fun _ h c => ⟨(h c).1.trans ?_, (h c).2⟩)
      (Cert.AttnRefIdeal.Value.run (F := Ideal) m' ρ')
    refine (Cert.AttnRefIdeal.Read.val_main_v41_eq (F := Ideal) _ _).trans ?_
    rw [(hagree c).1, (hagree c).2.1, (hagree c).2.2.1, (hagree c).2.2.2.1, (hagree c).2.2.2.2]
    funext i
    obtain ⟨r, l, rfl⟩ : ∃ (r : Fin 8192) (l : Fin 2048), i = ix2 r l := ⟨i 0, i 1, eq_ix2 i⟩
    exact ref_apply _ _ _ _ _ r l

/-- The reference runs, leaves its arguments unchanged and has no semaphores. -/
theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

end Cert.AttnProof

end
-- ==== Proof.KvProj.lean ====
/-
  The projection of the memory to keys and values: the kernel's result array and the reference's, both as
  `kv x g w`, entry `(r, l)` of which is row `r` of the memory in root-mean-square normal form times column `l`.
-/
module

public import proofs.«01_k».proof.Defs
public import proofs.«01_k».proof.Proof.Gen.KvProjIdeal.Value
public import proofs.«01_k».proof.Proof.Gen.KvProjRefIdeal.Read
public import proofs.«01_k».proof.Proof.Rows
public import Idealize.ShloMosaic.Lib.Quiescent

@[expose] public section

noncomputable section

namespace Cert.KvProjProof

open Idealize.ShloMosaic Idealize.ShloMosaic.TcCoe Idealize.SL.Sem Cert.Rows
open Idealize.ShloMosaic.Pipeline (Dat)

/-- What the call computes: each row's normal form times the weights. -/
def kv (x : Fin 512 → Fin 2048 → EReal) (g : Fin 2048 → EReal) (w : Fin 2048 → Fin 4096 → EReal)
    (r : Fin 512) (l : Fin 4096) : EReal :=
  vecMat (rms (f32 1157627904#32) (x r) g) w l

section Kernel

open Cert.KvProjIdeal Cert.KvProjIdeal.Gen

/-- One block of the kernel at an entry. -/
theorem pay_apply (x : Vec Ideal S512x2048 .f32) (g : Vec Ideal S1x2048 .f32) (w : Vec Ideal S2048x1024 .bf16)
    (r : Fin 512) (l : Fin 1024) :
    k0_pay1 (F := Ideal) x g w (ix2 r l)
      = vecMat (rms (f32 1157627904#32) (fun k => x (ix2 r k)) fun k => g (ix2 0 k)) (fun k j => w (ix2 k j)) l := by
  unfold_payloads
  pointwise [dot_S512x2048_S2048x1024_S512x1024_1_0_0_1_n_n]
  rfl

variable (m : (ℓ : Loc nD τ sig) → Buf (Elt Ideal) ℓ) (ρ : Dev nD → PrngReg)

/-- The kernel's result array. -/
abbrev G (c : Dev nD) : Buf (Elt Ideal) ((c : Thread nD τ).loc main_v1) := fun i : S512x4096.Idx =>
  kv (fun r k => m ((c : Thread nD τ).loc main_arg0) (ix2 r k)) (fun k => m ((c : Thread nD τ).loc main_arg1) (ix2 0 k))
    (fun k j => m ((c : Thread nD τ).loc main_arg2) (ix2 k j)) (i 0) (i 1)

/-- Where each window's block lies at a grid point: only the weights and the result move, along their columns. -/
theorem idx_facts : ∀ t : Fin grid0.N, t.val < 4 ∧ (win0_0.index t 0 = 0 ∧ win0_0.index t 1 = 0)
    ∧ (win0_1.index t 0 = 0 ∧ win0_1.index t 1 = 0) ∧ (win0_2.index t 0 = 0 ∧ win0_2.index t 1 = t.val)
    ∧ (win0_3.index t 0 = 0 ∧ win0_3.index t 1 = t.val) := by decide +kernel

theorem iblk0 (c : Dev nD) (t : Fin cfg0.N) (r : Fin 512) (k : Fin 2048) :
    iblk m c 0 t (ix2 r k) = m ((c : Thread nD τ).loc main_arg0) (ix2 r k) := by
  have h := idx_facts t
  show V m c main_arg0 ((win0_0.rect t).emb (ix2 r k)) = _
  rw [V_main_arg0]
  refine congrArg (m ((c : Thread nD τ).loc main_arg0)) (funext fun a => Fin.ext ?_)
  refine (win0_0.rect_emb_val t (ix2 r k) a).trans ?_
  match a with
  | ⟨0, _⟩ => show win0_0.index t 0 * 512 + r.val = r.val; omega
  | ⟨1, _⟩ => show win0_0.index t 1 * 2048 + k.val = k.val; omega

theorem iblk1 (c : Dev nD) (t : Fin cfg0.N) (k : Fin 2048) :
    iblk m c 1 t (ix2 0 k) = m ((c : Thread nD τ).loc main_arg1) (ix2 0 k) := by
  have h := idx_facts t
  show V m c main_arg1 ((win0_1.rect t).emb (ix2 0 k)) = _
  rw [V_main_arg1]
  refine congrArg (m ((c : Thread nD τ).loc main_arg1)) (funext fun a => Fin.ext ?_)
  refine (win0_1.rect_emb_val t (ix2 0 k) a).trans ?_
  match a with
  | ⟨0, _⟩ => show win0_1.index t 0 * 1 + 0 = 0; omega
  | ⟨1, _⟩ => show win0_1.index t 1 * 2048 + k.val = k.val; omega

/-- The weights as the kernel reads them: those of the argument, whose cast is the identity here. -/
theorem V_w (c : Dev nD) (i : S2048x4096.Idx) : V m c main_v0 i = m ((c : Thread nD τ).loc main_arg2) i := by
  unfold V hostOps0
  after_results_simp
  rfl

theorem iblk2 (c : Dev nD) (t : Fin cfg0.N) (k : Fin 2048) (j : Fin 1024) (J : Fin 4096) (hJ : J.val = t.val * 1024 + j.val) :
    iblk m c 2 t (ix2 k j) = m ((c : Thread nD τ).loc main_arg2) (ix2 k J) := by
  have h := idx_facts t
  show V m c main_v0 ((win0_2.rect t).emb (ix2 k j)) = _
  rw [V_w]
  refine congrArg (m ((c : Thread nD τ).loc main_arg2)) (funext fun a => Fin.ext ?_)
  refine (win0_2.rect_emb_val t (ix2 k j) a).trans ?_
  match a with
  | ⟨0, _⟩ => show win0_2.index t 0 * 2048 + k.val = k.val; omega
  | ⟨1, _⟩ => show win0_2.index t 1 * 1024 + j.val = J.val; omega

/-- The body's result is its payload of the blocks. -/
theorem out_eq (x0 : Vec Ideal S512x2048 .f32) (x1 : Vec Ideal S1x2048 .f32) (x2 : Vec Ideal S2048x1024 .bf16) :
    out0_3 x0 x1 x2 = k0_pay1 x0 x1 x2 := by
  unfold out0_3
  rw [View.canon_unit_zero hz, View.ld_unit_zero hz, View.ld_unit_zero hz, View.ld_unit_zero hz]

/-- What point `t` writes back is block `t` of `G`. -/
theorem flushed_eq (c : Dev nD) (t : Fin cfg0.N) :
    (dats m 0 c).flushed 3 t = (win0_3.blk t).view.read (Elt Ideal) (G m c) := by
  rw [Value.flushed3, out_eq]
  funext y
  have h := idx_facts t
  obtain ⟨r, j, rfl⟩ : ∃ (r : Fin 512) (j : Fin 1024), y = ix2 r j := ⟨y 0, y 1, eq_ix2 y⟩
  have hJ : t.val * 1024 + j.val < 4096 := by omega
  show k0_pay1 (F := Ideal) (iblk m c 0 t) (iblk m c 1 t) (iblk m c 2 t) (ix2 r j) = G m c ((win0_3.rect t).emb (ix2 r j))
  have e : (win0_3.rect t).emb (ix2 r j) = (ix2 r ⟨t.val * 1024 + j.val, hJ⟩ : S512x4096.Idx) := funext fun a => Fin.ext (by
    refine (win0_3.rect_emb_val t (ix2 r j) a).trans ?_
    match a with
    | ⟨0, _⟩ => show win0_3.index t 0 * 512 + r.val = r.val; omega
    | ⟨1, _⟩ => show win0_3.index t 1 * 1024 + j.val = t.val * 1024 + j.val; omega)
  rw [e, pay_apply]
  simp only [iblk0, iblk1]
  exact Finset.sum_congr rfl fun k _ => congrArg _ (iblk2 m c t k j _ rfl)

/-- The four blocks of columns cover the result. -/
theorem cover (i : S512x4096.Idx) : ∃ t : Fin cfg0.N, (cfg0.win 3).flush t = true ∧ i ∈ ((cfg0.win 3).blk t).view.set := by
  have h0 : (i 0 : Nat) < 512 := (i 0).isLt
  have h1 : (i 1 : Nat) < 4096 := (i 1).isLt
  have hN : cfg0.N = 4 := N_0
  obtain ⟨t, ht⟩ : ∃ t : Fin cfg0.N, t.val = (i 1 : Nat) / 1024 := ⟨⟨(i 1 : Nat) / 1024, by omega⟩, rfl⟩
  have h := idx_facts t
  refine ⟨t, flush0_3 t, ?_⟩
  show i ∈ ((View.whole main_v1).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512; omega
  | ⟨1, _⟩ => show win0_3.index t 1 * 1024 ≤ (i 1 : Nat) ∧ (i 1 : Nat) < win0_3.index t 1 * 1024 + 1024; omega

/-- The kernel's result array after the run. -/
theorem final (c : Dev nD) : (dats m 0 c).arrAt 3 cfg0.N = G m c :=
  (dats m 0 c).arrAt_eq_of_cover 3 (G m c) (fun t _ => flushed_eq m c t) cover

end Kernel

section Reference

open Cert.KvProjRefIdeal Cert.KvProjRefIdeal.Read

/-- The reference's result at an entry. -/
theorem ref_apply (x : FVec Ideal S512x2048 .f32) (g : FVec Ideal S1x2048 .f32) (w : FVec Ideal S2048x4096 .f32)
    (r : Fin 512) (l : Fin 4096) :
    val_main_v13 (F := Ideal) x g w (ix2 r l)
      = kv (fun r k => x (ix2 r k)) (fun k => g (ix2 0 k)) (fun k j => w (ix2 k j)) r l := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise [dot_S512x2048_S2048x4096_S512x4096_1_0_0_1_n_n]
  rfl

end Reference

/-- The claim: from the same arguments the kernel and the reference end with the same array. -/
theorem algebraic : Cert.algebraic_KvProjIdeal_KvProjRefIdeal := by
  intro m ρ m' ρ' _ hagree
  refine ⟨fun c => G m c, ?_, ?_⟩
  · exact (θ_run Cert.KvProjIdeal.defs _ _).mono (fun _ h c => ⟨(h c).1.trans (final m c), (h c).2⟩)
      (Cert.KvProjIdeal.Value.run_blocks (F := Ideal) m ρ)
  · refine (θ_run Cert.KvProjRefIdeal.defs _ _).mono (fun _ h c => ⟨(h c).1.trans ?_, (h c).2⟩)
      (Cert.KvProjRefIdeal.Value.run (F := Ideal) m' ρ')
    refine (Cert.KvProjRefIdeal.Read.val_main_v13_eq (F := Ideal) _ _ _).trans ?_
    rw [(hagree c).1, (hagree c).2.1, (hagree c).2.2]
    funext i
    obtain ⟨r, l, rfl⟩ : ∃ (r : Fin 512) (l : Fin 4096), i = ix2 r l := ⟨i 0, i 1, eq_ix2 i⟩
    exact ref_apply _ _ _ r l

/-- The reference runs, leaves its arguments unchanged and has no semaphores. -/
theorem frame_ref : Cert.quiescent_KvProjRefIdeal := fun m ρ _ =>
  (θ_run Cert.KvProjRefIdeal.defs _ _).mono (fun r h => ⟨fun c => (h c).2, sem_eq_zero_of_no_sems (by decide) r.2⟩)
    (Cert.KvProjRefIdeal.Value.run (F := Ideal) m ρ)

end Cert.KvProjProof

end
-- ==== Proof.MixOut.lean ====
/-
  The end of the mixer: the scan's output with its skip, gelu, gate and normal form, beside the convolution's channels,
  times the output weights, added to the residual. The kernel's result array and the reference's, both as `mix`.
-/
module

public import proofs.«01_k».proof.Defs
public import proofs.«01_k».proof.Proof.Gen.MixOutIdeal.Value
public import proofs.«01_k».proof.Proof.Gen.MixOutRefIdeal.Read
public import proofs.«01_k».proof.Proof.Rows
public import Idealize.ShloMosaic.Lib.Quiescent

@[expose] public section

noncomputable section

namespace Cert.MixOutProof

open Idealize.ShloMosaic Idealize.ShloMosaic.TcCoe Idealize.SL.Sem Cert.Rows
open Idealize.ShloMosaic.Pipeline (Dat)

/-! ## One row -/

/-- The gelu, in its tangent form. -/
def gelu (y : EReal) : EReal :=
  y * (f32 1056964608#32 * (1 + Ideal.tanh (f32 1061962282#32 * (y + f32 1027024659#32 * (y * y * y)))))

/-- The scan's channels after skip and gelu. -/
def act (ys d u : Fin 1024 → EReal) (k : Fin 1024) : EReal := gelu (ys k + d k * u k)

/-- Each channel times the logistic function of its gate. -/
def gated (z : Fin 1024 → EReal) (w : Fin 1024 → Fin 1024 → EReal) (k : Fin 1024) : EReal :=
  z k * Ideal.logistic (vecMat z w k)

/-- The two groups of channels of one row, side by side. -/
def channels (yc s : Fin 1024 → EReal) (k : Fin 2048) : EReal :=
  if h : k.val < 1024 then yc ⟨k.val, h⟩ else s ⟨k.val - 1024, by omega⟩

/-- One row of the result. -/
def mixRow (ys u d : Fin 1024 → EReal) (w : Fin 1024 → Fin 1024 → EReal) (g yc : Fin 1024 → EReal)
    (wo : Fin 2048 → Fin 2048 → EReal) (x : Fin 2048 → EReal) (l : Fin 2048) : EReal :=
  x l + vecMat (channels yc (rms (f32 1149239296#32) (gated (act ys d u) w) g)) wo l

/-- The product with the output weights, the two groups of channels apart. -/
theorem vecMat_channels (yc s : Fin 1024 → EReal) (wo : Fin 2048 → Fin 2048 → EReal) (l : Fin 2048) :
    vecMat (channels yc s) wo l
      = (∑ k : Fin 1024, yc k * wo ⟨k.val, by omega⟩ l) + ∑ k : Fin 1024, s k * wo ⟨1024 + k.val, by omega⟩ l := by
  unfold vecMat
  refine (Fin.sum_univ_add (a := 1024) (b := 1024) (fun k : Fin 2048 => channels yc s k * wo k l)).trans ?_
  refine congrArg₂ (· + ·) (Finset.sum_congr rfl fun k _ => ?_) (Finset.sum_congr rfl fun k _ => ?_)
  · have : channels yc s (Fin.castAdd 1024 k) = yc k := dif_pos k.isLt
    exact congrArg (· * _) this
  · have : channels yc s (Fin.natAdd 1024 k) = s k := by
      unfold channels
      rw [dif_neg (by simp)]
      exact congrArg s (Fin.ext (by simp))
    exact congrArg (· * _) this

/-- A row of the result depends on the entries of its arguments alone. -/
theorem mixRow_congr {ys ys' u u' d d' : Fin 1024 → EReal} {w w' : Fin 1024 → Fin 1024 → EReal} {g g' yc yc' : Fin 1024 → EReal}
    {wo wo' : Fin 2048 → Fin 2048 → EReal} {x x' : Fin 2048 → EReal} (hys : ∀ k, ys k = ys' k) (hu : ∀ k, u k = u' k)
    (hd : ∀ k, d k = d' k) (hw : ∀ k j, w k j = w' k j) (hg : ∀ k, g k = g' k) (hyc : ∀ k, yc k = yc' k)
    (hwo : ∀ k j, wo k j = wo' k j) (hx : ∀ k, x k = x' k) (l : Fin 2048) :
    mixRow ys u d w g yc wo x l = mixRow ys' u' d' w' g' yc' wo' x' l := by
  rw [show ys = ys' from funext hys, show u = u' from funext hu, show d = d' from funext hd,
    show w = w' from funext fun k => funext (hw k), show g = g' from funext hg, show yc = yc' from funext hyc,
    show wo = wo' from funext fun k => funext (hwo k), show x = x' from funext hx]

section Kernel

open Cert.MixOutIdeal Cert.MixOutIdeal.Gen

/-! ## One block of the kernel -/

section Block

variable (ys u : Vec Ideal S512x1024 .f32) (d : Vec Ideal S1x1024 .f32) (w : Vec Ideal S1024x1024 .bf16) (g : Vec Ideal S1x1024 .f32)
  (yc : Vec Ideal S512x1024 .bf16) (wo : Vec Ideal S2048x2048 .bf16) (x : Vec Ideal S512x2048 .f32)

/-- The scan's channels in normal form. -/
theorem pay2_apply (r : Fin 512) (k : Fin 1024) :
    k0_pay2 (F := Ideal) ys d u w g (ix2 r k)
      = rms (f32 1149239296#32) (gated (act (fun k => ys (ix2 r k)) (fun k => d (ix2 0 k)) fun k => u (ix2 r k)) fun k j => w (ix2 k j))
          (fun k => g (ix2 0 k)) k := by
  unfold k0_pay2
  pointwise [dot_S512x1024_S1024x1024_S512x1024_1_0_0_1_n_n]
  simp only [rms, gated, act, gelu, vecMat, mul_assoc]

/-- The residual and the two products. -/
theorem pay1_apply (s : Vec Ideal S512x1024 .bf16) (wa wb : Vec Ideal S1024x2048 .bf16) (r : Fin 512) (l : Fin 2048) :
    k0_pay1 (F := Ideal) s x yc wa wb (ix2 r l)
      = x (ix2 r l) + (∑ k, yc (ix2 r k) * wa (ix2 k l)) + ∑ k, s (ix2 r k) * wb (ix2 k l) := by
  unfold k0_pay1
  pointwise [dot_S512x1024_S1024x2048_S512x2048_1_0_0_1_n_n]

/-- The upper half of the output weights. -/
theorem ld_lo (k : Fin 1024) (l : Fin 2048) : View.ld wo r0_4 (ix2 k l) = wo (ix2 ⟨k.val, by omega⟩ l) := by
  pointwise [r0_4]

/-- The lower half. -/
theorem ld_hi (k : Fin 1024) (l : Fin 2048) : View.ld wo r0_5 (ix2 k l) = wo (ix2 ⟨1024 + k.val, by omega⟩ l) := by
  pointwise [r0_5]

/-- What one grid point leaves in the result's block. -/
theorem out_apply (r : Fin 512) (l : Fin 2048) :
    out0_8 (F := Ideal) ys u d w g yc wo x (ix2 r l)
      = mixRow (fun k => ys (ix2 r k)) (fun k => u (ix2 r k)) (fun k => d (ix2 0 k)) (fun k j => w (ix2 k j)) (fun k => g (ix2 0 k))
          (fun k => yc (ix2 r k)) (fun k j => wo (ix2 k j)) (fun k => x (ix2 r k)) l := by
  unfold out0_8
  rw [View.canon_unit_zero hz, View.ld_unit_zero hz, View.ld_unit_zero hz, View.ld_unit_zero hz, View.ld_unit_zero hz, View.ld_unit_zero hz,
    View.ld_unit_zero hz, View.ld_unit_zero hz, pay1_apply, mixRow, vecMat_channels, add_assoc]
  refine congrArg (_ + ·) (congrArg₂ (· + ·) (Finset.sum_congr rfl fun k _ => ?_) (Finset.sum_congr rfl fun k _ => ?_))
  · rw [ld_lo]
  · rw [pay2_apply, ld_hi]

end Block

/-! ## The arrays -/

variable (m : (ℓ : Loc nD τ sig) → Buf (Elt Ideal) ℓ) (ρ : Dev nD → PrngReg)

/-- The kernel's result array. -/
abbrev G (c : Dev nD) : Buf (Elt Ideal) ((c : Thread nD τ).loc main_v2) := fun i : S8192x2048.Idx =>
  mixRow (fun k => m ((c : Thread nD τ).loc main_arg0) (ix2 (i 0) k)) (fun k => m ((c : Thread nD τ).loc main_arg1) (ix2 (i 0) k))
    (fun k => m ((c : Thread nD τ).loc main_arg2) (ix2 0 k)) (fun k j => m ((c : Thread nD τ).loc main_arg3) (ix2 k j))
    (fun k => m ((c : Thread nD τ).loc main_arg4) (ix2 0 k)) (fun k => m ((c : Thread nD τ).loc main_arg5) (ix2 (i 0) k))
    (fun k j => m ((c : Thread nD τ).loc main_arg6) (ix2 k j)) (fun k => m ((c : Thread nD τ).loc main_arg7) (ix2 (i 0) k)) (i 1)

/-- Where each window's block lies at a grid point: the rows and the result move with the point, the weights not at all. -/
theorem idx_facts : ∀ t : Fin grid0.N, t.val < 16 ∧ (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = 0 ∧ win0_6.index t 1 = 0)
    ∧ (win0_7.index t 0 = t.val ∧ win0_7.index t 1 = 0) ∧ (win0_8.index t 0 = t.val ∧ win0_8.index t 1 = 0) := by decide +kernel

/-- The gate's weights as the kernel reads them: those of the argument, whose cast is the identity here. -/
theorem V_w (c : Dev nD) (i : S1024x1024.Idx) : V m c main_v0 i = m ((c : Thread nD τ).loc main_arg3) i := by
  unfold V hostOps0
  after_results_simp
  rfl

/-- The output weights likewise. -/
theorem V_wo (c : Dev nD) (i : S2048x2048.Idx) : V m c main_v1 i = m ((c : Thread nD τ).loc main_arg6) i := by
  unfold V hostOps0
  after_results_simp
  rfl

theorem iblk0 (c : Dev nD) (t : Fin cfg0.N) (r : Fin 512) (k : Fin 1024) (R : Fin 8192) (hR : R.val = t.val * 512 + r.val) :
    iblk m c 0 t (ix2 r k) = m ((c : Thread nD τ).loc main_arg0) (ix2 R k) := by
  have h := idx_facts t
  show V m c main_arg0 ((win0_0.rect t).emb (ix2 r k)) = _
  rw [V_main_arg0]
  refine congrArg (m ((c : Thread nD τ).loc main_arg0)) (funext fun a => Fin.ext ?_)
  refine (win0_0.rect_emb_val t (ix2 r k) a).trans ?_
  match a with
  | ⟨0, _⟩ => show win0_0.index t 0 * 512 + r.val = R.val; omega
  | ⟨1, _⟩ => show win0_0.index t 1 * 1024 + k.val = k.val; omega

theorem iblk1 (c : Dev nD) (t : Fin cfg0.N) (r : Fin 512) (k : Fin 1024) (R : Fin 8192) (hR : R.val = t.val * 512 + r.val) :
    iblk m c 1 t (ix2 r k) = m ((c : Thread nD τ).loc main_arg1) (ix2 R k) := by
  have h := idx_facts t
  show V m c main_arg1 ((win0_1.rect t).emb (ix2 r k)) = _
  rw [V_main_arg1]
  refine congrArg (m ((c : Thread nD τ).loc main_arg1)) (funext fun a => Fin.ext ?_)
  refine (win0_1.rect_emb_val t (ix2 r k) a).trans ?_
  match a with
  | ⟨0, _⟩ => show win0_1.index t 0 * 512 + r.val = R.val; omega
  | ⟨1, _⟩ => show win0_1.index t 1 * 1024 + k.val = k.val; omega

theorem iblk2 (c : Dev nD) (t : Fin cfg0.N) (k : Fin 1024) :
    iblk m c 2 t (ix2 0 k) = m ((c : Thread nD τ).loc main_arg2) (ix2 0 k) := by
  have h := idx_facts t
  show V m c main_arg2 ((win0_2.rect t).emb (ix2 0 k)) = _
  rw [V_main_arg2]
  refine congrArg (m ((c : Thread nD τ).loc main_arg2)) (funext fun a => Fin.ext ?_)
  refine (win0_2.rect_emb_val t (ix2 0 k) a).trans ?_
  match a with
  | ⟨0, _⟩ => show win0_2.index t 0 * 1 + 0 = 0; omega
  | ⟨1, _⟩ => show win0_2.index t 1 * 1024 + k.val = k.val; omega

theorem iblk3 (c : Dev nD) (t : Fin cfg0.N) (k j : Fin 1024) :
    iblk m c 3 t (ix2 k j) = m ((c : Thread nD τ).loc main_arg3) (ix2 k j) := by
  have h := idx_facts t
  show V m c main_v0 ((win0_3.rect t).emb (ix2 k j)) = _
  rw [V_w]
  refine congrArg (m ((c : Thread nD τ).loc main_arg3)) (funext fun a => Fin.ext ?_)
  refine (win0_3.rect_emb_val t (ix2 k j) a).trans ?_
  match a with
  | ⟨0, _⟩ => show win0_3.index t 0 * 1024 + k.val = k.val; omega
  | ⟨1, _⟩ => show win0_3.index t 1 * 1024 + j.val = j.val; omega

theorem iblk4 (c : Dev nD) (t : Fin cfg0.N) (k : Fin 1024) :
    iblk m c 4 t (ix2 0 k) = m ((c : Thread nD τ).loc main_arg4) (ix2 0 k) := by
  have h := idx_facts t
  show V m c main_arg4 ((win0_4.rect t).emb (ix2 0 k)) = _
  rw [V_main_arg4]
  refine congrArg (m ((c : Thread nD τ).loc main_arg4)) (funext fun a => Fin.ext ?_)
  refine (win0_4.rect_emb_val t (ix2 0 k) a).trans ?_
  match a with
  | ⟨0, _⟩ => show win0_4.index t 0 * 1 + 0 = 0; omega
  | ⟨1, _⟩ => show win0_4.index t 1 * 1024 + k.val = k.val; omega

theorem iblk5 (c : Dev nD) (t : Fin cfg0.N) (r : Fin 512) (k : Fin 1024) (R : Fin 8192) (hR : R.val = t.val * 512 + r.val) :
    iblk m c 5 t (ix2 r k) = m ((c : Thread nD τ).loc main_arg5) (ix2 R k) := by
  have h := idx_facts t
  show V m c main_arg5 ((win0_5.rect t).emb (ix2 r k)) = _
  rw [V_main_arg5]
  refine congrArg (m ((c : Thread nD τ).loc main_arg5)) (funext fun a => Fin.ext ?_)
  refine (win0_5.rect_emb_val t (ix2 r k) a).trans ?_
  match a with
  | ⟨0, _⟩ => show win0_5.index t 0 * 512 + r.val = R.val; omega
  | ⟨1, _⟩ => show win0_5.index t 1 * 1024 + k.val = k.val; omega

theorem iblk6 (c : Dev nD) (t : Fin cfg0.N) (k j : Fin 2048) :
    iblk m c 6 t (ix2 k j) = m ((c : Thread nD τ).loc main_arg6) (ix2 k j) := by
  have h := idx_facts t
  show V m c main_v1 ((win0_6.rect t).emb (ix2 k j)) = _
  rw [V_wo]
  refine congrArg (m ((c : Thread nD τ).loc main_arg6)) (funext fun a => Fin.ext ?_)
  refine (win0_6.rect_emb_val t (ix2 k j) a).trans ?_
  match a with
  | ⟨0, _⟩ => show win0_6.index t 0 * 2048 + k.val = k.val; omega
  | ⟨1, _⟩ => show win0_6.index t 1 * 2048 + j.val = j.val; omega

theorem iblk7 (c : Dev nD) (t : Fin cfg0.N) (r : Fin 512) (k : Fin 2048) (R : Fin 8192) (hR : R.val = t.val * 512 + r.val) :
    iblk m c 7 t (ix2 r k) = m ((c : Thread nD τ).loc main_arg7) (ix2 R k) := by
  have h := idx_facts t
  show V m c main_arg7 ((win0_7.rect t).emb (ix2 r k)) = _
  rw [V_main_arg7]
  refine congrArg (m ((c : Thread nD τ).loc main_arg7)) (funext fun a => Fin.ext ?_)
  refine (win0_7.rect_emb_val t (ix2 r k) a).trans ?_
  match a with
  | ⟨0, _⟩ => show win0_7.index t 0 * 512 + r.val = R.val; omega
  | ⟨1, _⟩ => show win0_7.index t 1 * 2048 + k.val = k.val; omega

/-- What point `t` writes back is block `t` of `G`. -/
theorem flushed_eq (c : Dev nD) (t : Fin cfg0.N) :
    (dats m 0 c).flushed 8 t = (win0_8.blk t).view.read (Elt Ideal) (G m c) := by
  rw [Value.flushed8]
  funext y
  have h := idx_facts t
  obtain ⟨r, l, rfl⟩ : ∃ (r : Fin 512) (l : Fin 2048), y = ix2 r l := ⟨y 0, y 1, eq_ix2 y⟩
  obtain ⟨R, hR⟩ : ∃ R : Fin 8192, R.val = t.val * 512 + r.val := ⟨⟨t.val * 512 + r.val, by omega⟩, rfl⟩
  have e : (win0_8.rect t).emb (ix2 r l) = (ix2 R l : S8192x2048.Idx) := funext fun a => Fin.ext (by
    refine (win0_8.rect_emb_val t (ix2 r l) a).trans ?_
    match a with
    | ⟨0, _⟩ => show win0_8.index t 0 * 512 + r.val = R.val; omega
    | ⟨1, _⟩ => show win0_8.index t 1 * 2048 + l.val = l.val; omega)
  show out0_8 (F := Ideal) (iblk m c 0 t) (iblk m c 1 t) (iblk m c 2 t) (iblk m c 3 t) (iblk m c 4 t) (iblk m c 5 t) (iblk m c 6 t)
    (iblk m c 7 t) (ix2 r l) = G m c ((win0_8.rect t).emb (ix2 r l))
  rw [e, out_apply]
  exact mixRow_congr (fun k => iblk0 m c t r k R hR) (fun k => iblk1 m c t r k R hR) (iblk2 m c t) (iblk3 m c t) (iblk4 m c t)
    (fun k => iblk5 m c t r k R hR) (iblk6 m c t) (fun k => iblk7 m c t r k R hR) l

/-- The sixteen blocks of rows cover the result. -/
theorem cover (i : S8192x2048.Idx) : ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 16 := N_0
  obtain ⟨t, ht⟩ : ∃ t : Fin cfg0.N, t.val = (i 0 : Nat) / 512 := ⟨⟨(i 0 : Nat) / 512, by omega⟩, rfl⟩
  have h := idx_facts t
  refine ⟨t, flush0_8 t, ?_⟩
  show i ∈ ((View.whole main_v2).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512; omega
  | ⟨1, _⟩ => show win0_8.index t 1 * 2048 ≤ (i 1 : Nat) ∧ (i 1 : Nat) < win0_8.index t 1 * 2048 + 2048; omega

/-- The kernel's result array after the run. -/
theorem final (c : Dev nD) : (dats m 0 c).arrAt 8 cfg0.N = G m c :=
  (dats m 0 c).arrAt_eq_of_cover 8 (G m c) (fun t _ => flushed_eq m c t) cover

end Kernel

/-! ## The reference -/

section Reference

open Cert.MixOutRefIdeal Cert.MixOutRefIdeal.Read

variable (ys u : Vec Ideal S8192x1024 .f32) (d : Vec Ideal S1x1024 .f32) (w : Vec Ideal S1024x1024 .f32) (g : Vec Ideal S1x1024 .f32)
  (yc : Vec Ideal S8192x1024 .bf16) (wo : Vec Ideal S2048x2048 .f32) (x : Vec Ideal S8192x2048 .f32)

/-- The scan's channels after skip and gelu. -/
theorem v15_apply (r : Fin 8192) (k : Fin 1024) :
    val_main_v15 (F := Ideal) ys u d (ix2 r k) = act (fun k => ys (ix2 r k)) (fun k => d (ix2 0 k)) (fun k => u (ix2 r k)) k := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1 val_main_cst_2
  pointwise []
  rfl

/-- And after the gate. -/
theorem v23_apply (r : Fin 8192) (k : Fin 1024) :
    val_main_v23 (F := Ideal) ys u d w (ix2 r k)
      = gated (act (fun k => ys (ix2 r k)) (fun k => d (ix2 0 k)) fun k => u (ix2 r k)) (fun k j => w (ix2 k j)) k := by
  unfold val_main_v23 val_main_v22 val_main_v21 val_main_v20 val_main_v19 val_main_v18 val_main_v17 val_main_v16 val_main_cst_3
    val_main_cst_4 gated vecMat
  simp only [← v15_apply ys u d r]
  generalize val_main_v15 (F := Ideal) ys u d = s
  pointwise [dot_S8192x1024_S1024x1024_S8192x1024_1_0_0_1_n_n]
  rfl

/-- And in normal form. -/
theorem v36_apply (r : Fin 8192) (k : Fin 1024) :
    val_main_v36 (F := Ideal) ys u d w g (ix2 r k)
      = rms (f32 1149239296#32) (gated (act (fun k => ys (ix2 r k)) (fun k => d (ix2 0 k)) fun k => u (ix2 r k)) fun k j => w (ix2 k j))
          (fun k => g (ix2 0 k)) k := by
  unfold val_main_v36 val_main_v35 val_main_v34 val_main_v33 val_main_v32 val_main_v31 val_main_v30 val_main_v29 val_main_v28
    val_main_v27 val_main_v26 val_main_v25 val_main_cst_5 val_main_cst_6 val_main_cst_7 rms
  simp only [← v23_apply ys u d w r]
  generalize val_main_v23 (F := Ideal) ys u d w = s
  pointwise []

/-- The reference's result at an entry. -/
theorem ref_apply (r : Fin 8192) (l : Fin 2048) :
    val_main_v39 (F := Ideal) ys u d w g yc wo x (ix2 r l)
      = mixRow (fun k => ys (ix2 r k)) (fun k => u (ix2 r k)) (fun k => d (ix2 0 k)) (fun k j => w (ix2 k j)) (fun k => g (ix2 0 k))
          (fun k => yc (ix2 r k)) (fun k j => wo (ix2 k j)) (fun k => x (ix2 r k)) l := by
  unfold val_main_v39 val_main_v38 val_main_v37 val_main_v24 mixRow vecMat channels
  simp only [← v36_apply ys u d w g r]
  generalize val_main_v36 (F := Ideal) ys u d w g = s
  pointwise [dot_S8192x2048_S2048x2048_S8192x2048_1_0_0_1_n_n]

end Reference

/-- The claim: from the same arguments the kernel and the reference end with the same array. -/
theorem algebraic : Cert.algebraic_MixOutIdeal_MixOutRefIdeal := by
  intro m ρ m' ρ' _ hagree
  refine ⟨fun c => G m c, ?_, ?_⟩
  · exact (θ_run Cert.MixOutIdeal.defs _ _).mono (fun _ h c => ⟨(h c).1.trans (final m c), (h c).2⟩)
      (Cert.MixOutIdeal.Value.run_blocks (F := Ideal) m ρ)
  · refine (θ_run Cert.MixOutRefIdeal.defs _ _).mono (fun _ h c => ⟨(h c).1.trans ?_, (h c).2⟩)
      (Cert.MixOutRefIdeal.Value.run (F := Ideal) m' ρ')
    refine (Cert.MixOutRefIdeal.Read.val_main_v39_eq (F := Ideal) _ _).trans ?_
    obtain ⟨h0, h1, h2, h3, h4, h5, h6, h7⟩ := hagree c
    rw [h0, h1, h2, h3, h4, h5, h6, h7]
    funext i
    obtain ⟨r, l, rfl⟩ : ∃ (r : Fin 8192) (l : Fin 2048), i = ix2 r l := ⟨i 0, i 1, eq_ix2 i⟩
    exact ref_apply _ _ _ _ _ _ _ _ r l

/-- The reference runs, leaves its arguments unchanged and has no semaphores. -/
theorem frame_ref : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

end Cert.MixOutProof

end
-- ==== Proof.MixInRow.lean ====
/-
  The mixer's first call in the words of one row: the gated projection, the causal convolution of a channel, and the
  layer norm, swish and normal form after it. The kernel and the reference are both read as `mixIn` and `scanIn`.
-/
module

public import proofs.«01_k».proof.Proof.Rows

@[expose] public section

noncomputable section

namespace Cert.MixInProof

open Idealize.ShloMosaic Cert.Rows

/-- A row's normal form times the weights. -/
def proj (x g : Fin 2048 → EReal) (w : Fin 2048 → Fin 3072 → EReal) (l : Fin 3072) : EReal :=
  vecMat (rms (f32 1157627904#32) x g) w l

/-- Channel `l` of the convolution's input: the projection's first part, times the logistic function of its second. -/
def gateRow (x g : Fin 2048 → EReal) (w : Fin 2048 → Fin 3072 → EReal) (l : Fin 1024) : EReal :=
  proj x g w ⟨l.val, by omega⟩ * Ideal.logistic (proj x g w ⟨1024 + l.val, by omega⟩)

/-- Channel `l` of the scan's input: the projection's third part. -/
def scanRow (x g : Fin 2048 → EReal) (w : Fin 2048 → Fin 3072 → EReal) (l : Fin 1024) : EReal :=
  proj x g w ⟨2048 + l.val, by omega⟩

/-- What tap `k` of the convolution reads at row `R` of a channel `C`: the entry `30 - k` rows before it, or zero where
    that lies before the start of the row's sequence (4096 rows each). -/
def padded (C : Fin 8192 → EReal) (R : Fin 8192) (k : Nat) : EReal :=
  if h : 30 ≤ R.val % 4096 + k ∧ k < 31 then C ⟨R.val + k - 30, by omega⟩ else 0

/-- The weight of tap `k`. -/
def weight (cw : Fin 31 → EReal) (k : Nat) : EReal := if h : k < 31 then cw ⟨k, h⟩ else 0

/-- The convolution of a channel at one row, its taps' entries given. -/
def conv (p : Nat → EReal) (cw : Fin 31 → EReal) (cb : EReal) : EReal := (∑ k ∈ Finset.range 31, p k * weight cw k) + cb

/-- A row less its mean. -/
def centred (y : Fin 1024 → EReal) (l : Fin 1024) : EReal := y l - Ideal.div (∑ c, y c) (f32 1149239296#32)

/-- The layer norm of a row. -/
def layerNorm (y lg lb : Fin 1024 → EReal) (l : Fin 1024) : EReal :=
  centred y l * Ideal.rsqrt (Ideal.div (∑ c, centred y c * centred y c) (f32 1149239296#32) + f32 897988541#32) * lg l + lb l

/-- Each entry times its logistic function. -/
def swish (y : Fin 1024 → EReal) (l : Fin 1024) : EReal := y l * Ideal.logistic (y l)

/-- The convolved row after layer norm, swish and normal form. -/
def post (y lg lb gg : Fin 1024 → EReal) (l : Fin 1024) : EReal :=
  rms (f32 1149239296#32) (swish (layerNorm y lg lb)) gg l

/-- The first result at row `R`, channel `l`. -/
def mixIn (x : Fin 8192 → Fin 2048 → EReal) (g : Fin 2048 → EReal) (w : Fin 2048 → Fin 3072 → EReal)
    (cw : Fin 31 → Fin 1024 → EReal) (cb lg lb gg : Fin 1024 → EReal) (R : Fin 8192) (l : Fin 1024) : EReal :=
  post (fun c => conv (padded (fun T => gateRow (x T) g w c) R) (fun k => cw k c) (cb c)) lg lb gg l

end Cert.MixInProof

end
-- ==== Proof.MixInBlk.lean ====
/-
  The mixer's first call, one grid point: the body's stores as one list. The body writes its 512 rows of convolved
  channels in sixteen chunks of 32 rows, each the same expression over another window of the scratch; here that
  expression is written once, and the stores the run found are shown to be its sixteen instances.
-/
module

public import proofs.«01_k».proof.Proof.Gen.MixInIdeal.Value

@[expose] public section

set_option maxRecDepth 16384

noncomputable section

namespace Cert.MixInProof

open Idealize.ShloMosaic Idealize.ShloMosaic.TcCoe Idealize.SL.Sem
open Cert.MixInIdeal Cert.MixInIdeal.Gen

variable {F : FTy → Type} [FloatOps F]

theorem inb_w (k : Nat) (h : k < 31) : ∀ a, (![k, 0] : Fin 2 → Nat) a + S1x1024.size a ≤ S31x1024.size a := by
  intro a; fin_cases a
  · show k + 1 ≤ 31; omega
  · show 0 + 1024 ≤ 1024; omega

theorem inb_x (o : Nat) (h : o ≤ 512) : ∀ a, (![o, 0] : Fin 2 → Nat) a + S32x1024.size a ≤ S544x1024.size a := by
  intro a; fin_cases a
  · show o + 32 ≤ 544; omega
  · show 0 + 1024 ≤ 1024; omega

theorem inb_o (o : Nat) (h : o ≤ 480) : ∀ a, (![o, 0] : Fin 2 → Nat) a + S32x1024.size a ≤ S512x1024.size a := by
  intro a; fin_cases a
  · show o + 32 ≤ 512; omega
  · show 0 + 1024 ≤ 1024; omega

/-- The bias and the first `k` taps of the convolution, for the 32 rows from row `o` on. A load that
    begins in the scratch's 32 leading rows reads `xl`, a later one `xe`. -/
def taps (cw : Vec F S31x1024 .f32) (cb : Vec F S1x1024 .f32) (xl xe : Vec F S544x1024 .f32) (o : Nat) (ho : o ≤ 480) :
    (k : Nat) → k ≤ 31 → FVec F S32x1024 .f32
  | 0, _ => broadcastTo S32x1024 (shapeCast S1x1024 cb shapeCasts_S1x1024_S1x1024) broadcasts_S1x1024_S32x1024
  | k + 1, h => addf (taps cw cb xl xe o ho k (Nat.le_of_succ_le h))
      (mulf (broadcastTo S32x1024 (View.ld cw (Rect.unit ![k, 0] ![1, 1024] (inb_w k h))) broadcasts_S1x1024_S32x1024)
        (View.ld (cond (Nat.blt (o + 2 + k) 32) xl xe) (Rect.unit ![o + 2 + k, 0] ![32, 1024] (inb_x (o + 2 + k) (by omega)))))

/-- The 32 rows from row `o` on of the point's block: the convolution, then layer norm, swish and normal form. -/
def chunk (cw : Vec F S31x1024 .f32) (cb lg lb gg : Vec F S1x1024 .f32) (xl xe : Vec F S544x1024 .f32) (o : Nat) (ho : o ≤ 480) :
    FVec F S32x1024 .bf16 :=
  k0_pay14 (taps cw cb xl xe o ho 31 le_rfl) lg lb gg

/-- The store of the 32 rows from row `o` on. -/
def piece (cw : Vec F S31x1024 .f32) (cb lg lb gg : Vec F S1x1024 .f32) (xl xe : Vec F S544x1024 .f32) (o : Nat) (ho : o ≤ 480) :
    View.Piece (Elt F) S512x1024 .bf16 :=
  ⟨Rect.unit ![o, 0] ![32, 1024] (inb_o o ho), chunk cw cb lg lb gg xl xe o ho⟩

/-- All sixteen stores, the last first. -/
def pieces (cw : Vec F S31x1024 .f32) (cb lg lb gg : Vec F S1x1024 .f32) (xl xe : Vec F S544x1024 .f32) :
    List (View.Piece (Elt F) S512x1024 .bf16) :=
  [piece cw cb lg lb gg xl xe 480 (by omega), piece cw cb lg lb gg xl xe 448 (by omega), piece cw cb lg lb gg xl xe 416 (by omega),
   piece cw cb lg lb gg xl xe 384 (by omega), piece cw cb lg lb gg xl xe 352 (by omega), piece cw cb lg lb gg xl xe 320 (by omega),
   piece cw cb lg lb gg xl xe 288 (by omega), piece cw cb lg lb gg xl xe 256 (by omega), piece cw cb lg lb gg xl xe 224 (by omega),
   piece cw cb lg lb gg xl xe 192 (by omega), piece cw cb lg lb gg xl xe 160 (by omega), piece cw cb lg lb gg xl xe 128 (by omega),
   piece cw cb lg lb gg xl xe 96 (by omega), piece cw cb lg lb gg xl xe 64 (by omega), piece cw cb lg lb gg xl xe 32 (by omega),
   piece cw cb lg lb gg xl xe 0 (by omega)]

/-- The block's gated channels. -/
def gate (x : Vec F S512x2048 .f32) (g : Vec F S1x2048 .f32) (w : Vec F S2048x3072 .bf16) : FVec F S512x1024 .f32 :=
  k0_pay7 (k0_pay3 x g (View.ld w (Rect.unit ![0, 0] ![2048, 1024] inb_S2048x3072_S2048x1024_0_0)))
    (k0_pay4 x g (View.ld w (Rect.unit ![0, 1024] ![2048, 1024] inb_S2048x3072_S2048x1024_0_1024)))

/-- The store of the gated channels to the scratch, below its 32 leading rows. -/
def body (x : Vec F S512x2048 .f32) (g : Vec F S1x2048 .f32) (w : Vec F S2048x3072 .bf16) : View.Piece (Elt F) S544x1024 .f32 :=
  ⟨Rect.unit ![32, 0] ![512, 1024] inb_S544x1024_S512x1024_32_0, gate x g w⟩

/-- The store of zeros to the scratch's 32 leading rows. -/
def zeros : View.Piece (Elt F) S544x1024 .f32 :=
  ⟨Rect.unit ![0, 0] ![32, 1024] inb_S544x1024_S32x1024_0_0, k0_pay6⟩

/-- The store of the scratch's last 32 rows to its leading ones. -/
def tail (xe : Vec F S544x1024 .f32) : View.Piece (Elt F) S544x1024 .f32 :=
  ⟨Rect.unit ![0, 0] ![32, 1024] inb_S544x1024_S32x1024_0_0,
    k0_pay1 (View.ld xe (Rect.unit ![512, 0] ![32, 1024] inb_S544x1024_S32x1024_512_0))⟩

/-- At the first block of a sequence: the store of the scan's input. -/
theorem runA_u
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : cond0_0 i) (x0 : Vec F S512x2048 .f32)
    (x1 : Vec F S1x2048 .f32) (x2 : Vec F S2048x3072 .bf16) (x3 : Vec F S31x1024 .f32) (x4 : Vec F S1x1024 .f32) (x5 : Vec
    F S1x1024 .f32) (x6 : Vec F S1x1024 .f32) (x7 : Vec F S1x1024 .f32) :
    (kernelRun0_A c i arg1 harg1 arg2 harg2 arg3 harg3 arg4 harg4 arg5 harg5 arg6 harg6 arg7 harg7 arg8 harg8 arg9 harg9
    arg10 harg10 arg11 harg11 hc0 x0 x1 x2 x3 x4 x5 x6 x7).2.1
      = [⟨Rect.unit ![0, 0] ![512, 1024] inb_S512x1024_S512x1024_0_0, k0_pay5 (View.ld (arg1.view.read (Elt F) (harg1.unread
        x0)) (Rect.unit ![0, 0] ![512, 2048] inb_S512x2048_S512x2048_0_0)) (View.ld (arg2.view.read (Elt F) (harg2.unread x1))
        (Rect.unit ![0, 0] ![1, 2048] inb_S1x2048_S1x2048_0_0)) (View.ld (arg3.view.read (Elt F) (harg3.unread x2)) (Rect.unit
        ![0, 2048] ![2048, 1024] inb_S2048x3072_S2048x1024_0_2048))⟩] := by
  rfl

/-- At the first block of a sequence: the stores to the scratch. -/
theorem runA_scr
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : cond0_0 i) (x0 : Vec F S512x2048 .f32)
    (x1 : Vec F S1x2048 .f32) (x2 : Vec F S2048x3072 .bf16) (x3 : Vec F S31x1024 .f32) (x4 : Vec F S1x1024 .f32) (x5 : Vec
    F S1x1024 .f32) (x6 : Vec F S1x1024 .f32) (x7 : Vec F S1x1024 .f32) :
    (kernelRun0_A c i arg1 harg1 arg2 harg2 arg3 harg3 arg4 harg4 arg5 harg5 arg6 harg6 arg7 harg7 arg8 harg8 arg9 harg9
    arg10 harg10 arg11 harg11 hc0 x0 x1 x2 x3 x4 x5 x6 x7).2.2.1
      = [tail (arg11.view.read (Elt F) (arg11.view.writes (Elt F) arg11.view.junk [body (View.ld (arg1.view.read (Elt F)
        (harg1.unread x0)) (Rect.unit ![0, 0] ![512, 2048] inb_S512x2048_S512x2048_0_0)) (View.ld (arg2.view.read (Elt F)
        (harg2.unread x1)) (Rect.unit ![0, 0] ![1, 2048] inb_S1x2048_S1x2048_0_0)) (arg3.view.read (Elt F) (harg3.unread x2)),
        zeros])), body (View.ld (arg1.view.read (Elt F) (harg1.unread x0)) (Rect.unit ![0, 0] ![512, 2048]
        inb_S512x2048_S512x2048_0_0)) (View.ld (arg2.view.read (Elt F) (harg2.unread x1)) (Rect.unit ![0, 0] ![1, 2048]
        inb_S1x2048_S1x2048_0_0)) (arg3.view.read (Elt F) (harg3.unread x2)), zeros] := by
  rfl

set_option maxHeartbeats 4000000 in
/-- At the first block of a sequence: the stores of the convolved channels. -/
theorem runA_yc
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : cond0_0 i) (x0 : Vec F S512x2048 .f32)
    (x1 : Vec F S1x2048 .f32) (x2 : Vec F S2048x3072 .bf16) (x3 : Vec F S31x1024 .f32) (x4 : Vec F S1x1024 .f32) (x5 : Vec
    F S1x1024 .f32) (x6 : Vec F S1x1024 .f32) (x7 : Vec F S1x1024 .f32) :
    (kernelRun0_A c i arg1 harg1 arg2 harg2 arg3 harg3 arg4 harg4 arg5 harg5 arg6 harg6 arg7 harg7 arg8 harg8 arg9 harg9
    arg10 harg10 arg11 harg11 hc0 x0 x1 x2 x3 x4 x5 x6 x7).1
      = pieces (arg4.view.read (Elt F) (harg4.unread x3)) (View.ld (arg5.view.read (Elt F) (harg5.unread x4)) (Rect.unit ![0,
        0] ![1, 1024] inb_S1x1024_S1x1024_0_0)) (View.ld (arg6.view.read (Elt F) (harg6.unread x5)) (Rect.unit ![0, 0] ![1,
        1024] inb_S1x1024_S1x1024_0_0)) (View.ld (arg7.view.read (Elt F) (harg7.unread x6)) (Rect.unit ![0, 0] ![1, 1024]
        inb_S1x1024_S1x1024_0_0)) (View.ld (arg8.view.read (Elt F) (harg8.unread x7)) (Rect.unit ![0, 0] ![1, 1024]
        inb_S1x1024_S1x1024_0_0)) (arg11.view.read (Elt F) (arg11.view.writes (Elt F) arg11.view.junk [body (View.ld
        (arg1.view.read (Elt F) (harg1.unread x0)) (Rect.unit ![0, 0] ![512, 2048] inb_S512x2048_S512x2048_0_0)) (View.ld
        (arg2.view.read (Elt F) (harg2.unread x1)) (Rect.unit ![0, 0] ![1, 2048] inb_S1x2048_S1x2048_0_0)) (arg3.view.read
        (Elt F) (harg3.unread x2)), zeros])) (arg11.view.read (Elt F) (arg11.view.writes (Elt F) arg11.view.junk [body
        (View.ld (arg1.view.read (Elt F) (harg1.unread x0)) (Rect.unit ![0, 0] ![512, 2048] inb_S512x2048_S512x2048_0_0))
        (View.ld (arg2.view.read (Elt F) (harg2.unread x1)) (Rect.unit ![0, 0] ![1, 2048] inb_S1x2048_S1x2048_0_0))
        (arg3.view.read (Elt F) (harg3.unread x2)), zeros])) := by
  unfold kernelRun0_A; rfl

/-- At a later block of a sequence: the store of the scan's input. -/
theorem runB_u
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : ¬cond0_0 i) (x0 : Vec F S512x2048 .f32)
    (x1 : Vec F S1x2048 .f32) (x2 : Vec F S2048x3072 .bf16) (x3 : Vec F S31x1024 .f32) (x4 : Vec F S1x1024 .f32) (x5 : Vec
    F S1x1024 .f32) (x6 : Vec F S1x1024 .f32) (x7 : Vec F S1x1024 .f32) (xs0 : Vec F S544x1024 .f32) :
    (kernelRun0_B c i arg1 harg1 arg2 harg2 arg3 harg3 arg4 harg4 arg5 harg5 arg6 harg6 arg7 harg7 arg8 harg8 arg9 harg9
    arg10 harg10 arg11 harg11 hc0 x0 x1 x2 x3 x4 x5 x6 x7 xs0).2.1
      = [⟨Rect.unit ![0, 0] ![512, 1024] inb_S512x1024_S512x1024_0_0, k0_pay5 (View.ld (arg1.view.read (Elt F) (harg1.unread
        x0)) (Rect.unit ![0, 0] ![512, 2048] inb_S512x2048_S512x2048_0_0)) (View.ld (arg2.view.read (Elt F) (harg2.unread x1))
        (Rect.unit ![0, 0] ![1, 2048] inb_S1x2048_S1x2048_0_0)) (View.ld (arg3.view.read (Elt F) (harg3.unread x2)) (Rect.unit
        ![0, 2048] ![2048, 1024] inb_S2048x3072_S2048x1024_0_2048))⟩] := by
  rfl

/-- At a later block of a sequence: the stores to the scratch. -/
theorem runB_scr
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : ¬cond0_0 i) (x0 : Vec F S512x2048 .f32)
    (x1 : Vec F S1x2048 .f32) (x2 : Vec F S2048x3072 .bf16) (x3 : Vec F S31x1024 .f32) (x4 : Vec F S1x1024 .f32) (x5 : Vec
    F S1x1024 .f32) (x6 : Vec F S1x1024 .f32) (x7 : Vec F S1x1024 .f32) (xs0 : Vec F S544x1024 .f32) :
    (kernelRun0_B c i arg1 harg1 arg2 harg2 arg3 harg3 arg4 harg4 arg5 harg5 arg6 harg6 arg7 harg7 arg8 harg8 arg9 harg9
    arg10 harg10 arg11 harg11 hc0 x0 x1 x2 x3 x4 x5 x6 x7 xs0).2.2.1
      = [tail (arg11.view.read (Elt F) (arg11.view.writes (Elt F) arg11.view.junk [body (View.ld (arg1.view.read (Elt F)
        (harg1.unread x0)) (Rect.unit ![0, 0] ![512, 2048] inb_S512x2048_S512x2048_0_0)) (View.ld (arg2.view.read (Elt F)
        (harg2.unread x1)) (Rect.unit ![0, 0] ![1, 2048] inb_S1x2048_S1x2048_0_0)) (arg3.view.read (Elt F) (harg3.unread
        x2))])), body (View.ld (arg1.view.read (Elt F) (harg1.unread x0)) (Rect.unit ![0, 0] ![512, 2048]
        inb_S512x2048_S512x2048_0_0)) (View.ld (arg2.view.read (Elt F) (harg2.unread x1)) (Rect.unit ![0, 0] ![1, 2048]
        inb_S1x2048_S1x2048_0_0)) (arg3.view.read (Elt F) (harg3.unread x2))] := by
  rfl

set_option maxHeartbeats 4000000 in
/-- At a later block of a sequence: the stores of the convolved channels. -/
theorem runB_yc
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : ¬cond0_0 i) (x0 : Vec F S512x2048 .f32)
    (x1 : Vec F S1x2048 .f32) (x2 : Vec F S2048x3072 .bf16) (x3 : Vec F S31x1024 .f32) (x4 : Vec F S1x1024 .f32) (x5 : Vec
    F S1x1024 .f32) (x6 : Vec F S1x1024 .f32) (x7 : Vec F S1x1024 .f32) (xs0 : Vec F S544x1024 .f32) :
    (kernelRun0_B c i arg1 harg1 arg2 harg2 arg3 harg3 arg4 harg4 arg5 harg5 arg6 harg6 arg7 harg7 arg8 harg8 arg9 harg9
    arg10 harg10 arg11 harg11 hc0 x0 x1 x2 x3 x4 x5 x6 x7 xs0).1
      = pieces (arg4.view.read (Elt F) (harg4.unread x3)) (View.ld (arg5.view.read (Elt F) (harg5.unread x4)) (Rect.unit ![0,
        0] ![1, 1024] inb_S1x1024_S1x1024_0_0)) (View.ld (arg6.view.read (Elt F) (harg6.unread x5)) (Rect.unit ![0, 0] ![1,
        1024] inb_S1x1024_S1x1024_0_0)) (View.ld (arg7.view.read (Elt F) (harg7.unread x6)) (Rect.unit ![0, 0] ![1, 1024]
        inb_S1x1024_S1x1024_0_0)) (View.ld (arg8.view.read (Elt F) (harg8.unread x7)) (Rect.unit ![0, 0] ![1, 1024]
        inb_S1x1024_S1x1024_0_0)) (arg11.view.read (Elt F) (arg11.view.writes (Elt F) (harg11.unread xs0) [body (View.ld
        (arg1.view.read (Elt F) (harg1.unread x0)) (Rect.unit ![0, 0] ![512, 2048] inb_S512x2048_S512x2048_0_0)) (View.ld
        (arg2.view.read (Elt F) (harg2.unread x1)) (Rect.unit ![0, 0] ![1, 2048] inb_S1x2048_S1x2048_0_0)) (arg3.view.read
        (Elt F) (harg3.unread x2))])) (arg11.view.read (Elt F) (arg11.view.writes (Elt F) arg11.view.junk [body (View.ld
        (arg1.view.read (Elt F) (harg1.unread x0)) (Rect.unit ![0, 0] ![512, 2048] inb_S512x2048_S512x2048_0_0)) (View.ld
        (arg2.view.read (Elt F) (harg2.unread x1)) (Rect.unit ![0, 0] ![1, 2048] inb_S1x2048_S1x2048_0_0)) (arg3.view.read
        (Elt F) (harg3.unread x2))])) := by
  unfold kernelRun0_B; rfl

end Cert.MixInProof

end
-- ==== Proof.MixInVal.lean ====
/-
  The mixer's first call, one grid point: what its stores hold at an entry. `Y e c` stands for what row `e`, channel `c`
  of the scratch holds while the point convolves: the 32 rows before the block and then the block's own 512.
-/
module

public import proofs.«01_k».proof.Proof.MixInRow
public import proofs.«01_k».proof.Proof.MixInBlk
public import Idealize.ShloMosaic.Lib.WritesUnit

@[expose] public section

set_option maxRecDepth 16384

noncomputable section

namespace Cert.MixInProof

open Idealize.ShloMosaic Idealize.ShloMosaic.TcCoe Idealize.SL.Sem Cert.Rows
open Cert.MixInIdeal Cert.MixInIdeal.Gen

/-! ## The projection -/

section Proj

variable (x : Vec Ideal S512x2048 .f32) (g : Vec Ideal S1x2048 .f32) (w : Vec Ideal S2048x3072 .bf16)

theorem norm_apply (r : Fin 512) (k : Fin 2048) :
    k0_pay2 (F := Ideal) x g (ix2 r k) = rms (f32 1157627904#32) (fun k => x (ix2 r k)) (fun k => g (ix2 0 k)) k := by
  unfold k0_pay2 rms
  pointwise []

theorem w_col (o : Nat) (ho : o ≤ 2048) (h : ∀ a, (![0, o] : Fin 2 → Nat) a + S2048x1024.size a ≤ S2048x3072.size a) (k : Fin 2048)
    (l : Fin 1024) : View.ld w (Rect.unit ![0, o] ![2048, 1024] h) (ix2 k l) = w (ix2 k ⟨o + l.val, by omega⟩) := by
  pointwise []

/-- The block's gated channels. -/
theorem gate_apply (r : Fin 512) (l : Fin 1024) :
    gate (F := Ideal) x g w (ix2 r l) = gateRow (fun k => x (ix2 r k)) (fun k => g (ix2 0 k)) (fun k j => w (ix2 k j)) l := by
  unfold gate k0_pay7 k0_pay4 k0_pay3 gateRow proj vecMat
  simp only [← norm_apply x g r]
  generalize k0_pay2 (F := Ideal) x g = y
  pointwise [dot_S512x2048_S2048x1024_S512x1024_1_0_0_1_n_n]

/-- The block's channels of the scan. -/
theorem scan_apply (r : Fin 512) (l : Fin 1024) :
    k0_pay5 (F := Ideal) x g (View.ld w (Rect.unit ![0, 2048] ![2048, 1024] inb_S2048x3072_S2048x1024_0_2048)) (ix2 r l)
      = scanRow (fun k => x (ix2 r k)) (fun k => g (ix2 0 k)) (fun k j => w (ix2 k j)) l := by
  unfold k0_pay5 scanRow proj vecMat
  simp only [← norm_apply x g r]
  generalize k0_pay2 (F := Ideal) x g = y
  pointwise [dot_S512x2048_S2048x1024_S512x1024_1_0_0_1_n_n]

end Proj

/-! ## The convolution -/

section Conv

variable (cw : Vec Ideal S31x1024 .f32) (cb lg lb gg : Vec Ideal S1x1024 .f32) (xl xe : Vec Ideal S544x1024 .f32)
  (Y : Nat → Fin 1024 → EReal)

/-- One block's result at row `q`, channel `l`, from the scratch's rows. -/
def blk (q : Fin 512) (l : Fin 1024) : EReal :=
  post (fun c => conv (fun i => Y (q.val + 2 + i) c) (fun k => cw (ix2 k c)) (cb (ix2 0 c))) (fun c => lg (ix2 0 c))
    (fun c => lb (ix2 0 c)) (fun c => gg (ix2 0 c)) l

/-- What follows the convolution, 32 rows. -/
theorem pay14_apply (T : Vec Ideal S32x1024 .f32) (r : Fin 32) (l : Fin 1024) :
    k0_pay14 (F := Ideal) T lg lb gg (ix2 r l)
      = post (fun c => T (ix2 r c)) (fun c => lg (ix2 0 c)) (fun c => lb (ix2 0 c)) (fun c => gg (ix2 0 c)) l := by
  unfold k0_pay14 post rms swish layerNorm centred
  pointwise []

theorem w_row (k : Nat) (h : k < 31) (l : Fin 1024) :
    View.ld cw (Rect.unit ![k, 0] ![1, 1024] (inb_w k h)) (ix2 0 l) = cw (ix2 ⟨k, h⟩ l) := by
  pointwise []

theorem x_row (x : Vec Ideal S544x1024 .f32) (o : Nat) (h : o ≤ 512) (r : Fin 32) (l : Fin 1024) :
    View.ld x (Rect.unit ![o, 0] ![32, 1024] (inb_x o h)) (ix2 r l) = x (ix2 ⟨o + r.val, by omega⟩ l) := by
  pointwise []

theorem step_apply (z u : FVec Ideal S32x1024 .f32) (v : FVec Ideal S1x1024 .f32) (r : Fin 32) (l : Fin 1024) :
    (addf z (mulf (broadcastTo S32x1024 v broadcasts_S1x1024_S32x1024) u) : FVec Ideal S32x1024 .f32) (ix2 r l)
      = z (ix2 r l) + v (ix2 0 l) * u (ix2 r l) := by
  pointwise []

variable (hl : ∀ (e : Fin 544) (c : Fin 1024), xl (ix2 e c) = Y e.val c)
  (hh : ∀ e : Fin 544, 32 ≤ e.val → ∀ c : Fin 1024, xe (ix2 e c) = Y e.val c)

include hl hh in
theorem taps_apply (o : Nat) (ho : o ≤ 480) (r : Fin 32) (l : Fin 1024) : ∀ (k : Nat) (hk : k ≤ 31),
    taps (F := Ideal) cw cb xl xe o ho k hk (ix2 r l)
      = (∑ i ∈ Finset.range k, Y (o + r.val + 2 + i) l * weight (fun j => cw (ix2 j l)) i) + cb (ix2 0 l)
  | 0, hk => by
    rw [Finset.sum_range_zero, zero_add]
    unfold taps
    pointwise []
  | k + 1, hk => by
    have ih := taps_apply o ho r l k (Nat.le_of_succ_le hk)
    rw [Finset.sum_range_succ, add_right_comm, ← ih]
    have e1 : View.ld (cond (Nat.blt (o + 2 + k) 32) xl xe) (Rect.unit ![o + 2 + k, 0] ![32, 1024] (inb_x (o + 2 + k) (by omega))) (ix2 r l)
        = Y (o + r.val + 2 + k) l := by
      rw [x_row _ _ (by omega)]
      have e : o + 2 + k + r.val = o + r.val + 2 + k := by omega
      cases hb : Nat.blt (o + 2 + k) 32
      · have : ¬ o + 2 + k < 32 := fun h => by rw [Nat.blt_eq.mpr h] at hb; exact Bool.noConfusion hb
        exact (hh ⟨o + 2 + k + r.val, by omega⟩ (by show 32 ≤ o + 2 + k + r.val; omega) l).trans (congrArg (Y · l) e)
      · exact (hl ⟨o + 2 + k + r.val, by omega⟩ l).trans (congrArg (Y · l) e)
    have e2 := w_row cw k hk l
    rw [weight, dif_pos (show k < 31 from hk), ← e1, ← e2, mul_comm]
    exact step_apply _ _ _ r l

/-- The block's result as one function of its entries. -/
abbrev blkArr : S512x1024.Idx → EReal := fun i => blk cw cb lg lb gg Y (i 0) (i 1)

include hl hh in
theorem piece_apply (o : Nat) (ho : o ≤ 480) (x : (piece (F := Ideal) cw cb lg lb gg xl xe o ho).1.shape.Idx) :
    (piece (F := Ideal) cw cb lg lb gg xl xe o ho).2 x
      = blkArr cw cb lg lb gg Y ((piece (F := Ideal) cw cb lg lb gg xl xe o ho).1.emb x) := by
  obtain ⟨r, l, rfl⟩ : ∃ (r : Fin 32) (l : Fin 1024), x = ix2 r l := ⟨x 0, x 1, eq_ix2 x⟩
  have e : (piece (F := Ideal) cw cb lg lb gg xl xe o ho).1.emb (ix2 r l) = (ix2 (⟨o + r.val, by omega⟩ : Fin 512) l : S512x1024.Idx) :=
    funext fun a => Fin.ext (by
      match a with
      | ⟨0, _⟩ => show o + 1 * r.val = o + r.val; omega
      | ⟨1, _⟩ => show 0 + 1 * l.val = l.val; omega)
  rw [e]
  refine (pay14_apply lg lb gg (taps cw cb xl xe o ho 31 le_rfl) r l).trans ?_
  refine congrArg (fun y => post y (fun c => lg (ix2 0 c)) (fun c => lb (ix2 0 c)) (fun c => gg (ix2 0 c)) l) (funext fun c => ?_)
  exact taps_apply cw cb xl xe Y hl hh o ho r c 31 le_rfl

/-- Each of the sixteen stores is one of the list. -/
theorem mem_pieces (j : Fin 16) :
    piece (F := Ideal) cw cb lg lb gg xl xe (32 * j.val) (by omega) ∈ pieces cw cb lg lb gg xl xe := by
  fin_cases j <;> simp [pieces]

/-- And the list has no others. -/
theorem exists_of_mem_pieces (p : View.Piece (Elt Ideal) S512x1024 .bf16) (h : p ∈ pieces (F := Ideal) cw cb lg lb gg xl xe) :
    ∃ (o : Nat) (ho : o ≤ 480), p = piece cw cb lg lb gg xl xe o ho := by
  simp only [pieces, List.mem_cons, List.not_mem_nil, or_false] at h
  rcases h with h | h | h | h | h | h | h | h | h | h | h | h | h | h | h | h <;> exact ⟨_, _, h⟩

include hl hh in
/-- What the sixteen stores leave in the block. -/
theorem pieces_apply {sig : RefSig} {κ : Kind} {sp : Space} (v : View sig κ sp S512x1024 .bf16) (f : v.ty.Contents (Elt Ideal))
    (q : Fin 512) (l : Fin 1024) :
    v.read (Elt Ideal) (v.writes (Elt Ideal) f (pieces (F := Ideal) cw cb lg lb gg xl xe)) (ix2 q l) = blk cw cb lg lb gg Y q l := by
  refine View.read_writes_apply_of_pieces v f (blkArr cw cb lg lb gg Y) _ (fun p hp x => ?_) (ix2 q l) ?_
  · obtain ⟨o, ho, rfl⟩ := exists_of_mem_pieces cw cb lg lb gg xl xe p hp
    exact piece_apply cw cb lg lb gg xl xe Y hl hh o ho x
  · refine ⟨_, mem_pieces cw cb lg lb gg xl xe ⟨q.val / 32, by omega⟩, ?_⟩
    show (ix2 q l : S512x1024.Idx) ∈ (Rect.unit ![32 * (q.val / 32), 0] ![32, 1024] (inb_o (32 * (q.val / 32)) (by omega))).set
    rw [Rect.mem_set_unit]
    intro a
    match a with
    | ⟨0, _⟩ => show 32 * (q.val / 32) ≤ q.val ∧ q.val < 32 * (q.val / 32) + 32; omega
    | ⟨1, _⟩ => show 0 ≤ l.val ∧ l.val < 0 + 1024; omega

end Conv

/-! ## The scratch -/

section Scratch

variable (x : Vec Ideal S512x2048 .f32) (g : Vec Ideal S1x2048 .f32) (w : Vec Ideal S2048x3072 .bf16)
variable {sig : RefSig} {κ : Kind} {sp : Space} (v : View sig κ sp S544x1024 .f32) (f : v.ty.Contents (Elt Ideal))
  (L : List (View.Piece (Elt Ideal) S544x1024 .f32))

/-- From row 32 on the scratch holds the block's own gated channels. -/
theorem body_hi (e : Fin 544) (he : 32 ≤ e.val) (c : Fin 1024) :
    v.read (Elt Ideal) (v.writes (Elt Ideal) f (body x g w :: L)) (ix2 e c)
      = gateRow (fun k => x (ix2 (⟨e.val - 32, by omega⟩ : Fin 512) k)) (fun k => g (ix2 0 k)) (fun k j => w (ix2 k j)) c := by
  refine (View.read_writes_cons_rows_of_mem v f (o := 32) _ _ L (ix2 e c) (ix2 (⟨e.val - 32, by omega⟩ : Fin 512) c) rfl ?_ rfl).trans
    (gate_apply x g w _ c)
  show e.val = 32 + (e.val - 32)
  omega

/-- Before row 32 that store changes nothing. -/
theorem body_lo (e : Fin 544) (he : e.val < 32) (c : Fin 1024) :
    v.read (Elt Ideal) (v.writes (Elt Ideal) f (body x g w :: L)) (ix2 e c) = v.read (Elt Ideal) (v.writes (Elt Ideal) f L) (ix2 e c) :=
  View.read_writes_cons_rows_of_not_mem v f (o := 32) (W := 512) _ _ L (ix2 e c) rfl rfl (Or.inl he)

theorem zeros_lo (e : Fin 544) (he : e.val < 32) (c : Fin 1024) :
    v.read (Elt Ideal) (v.writes (Elt Ideal) f (zeros :: L)) (ix2 e c) = 0 := by
  refine (View.read_writes_cons_rows_of_mem v f (o := 0) _ _ L (ix2 e c) (ix2 (⟨e.val, he⟩ : Fin 32) c) rfl ?_ rfl).trans ?_
  · show e.val = 0 + e.val
    omega
  · unfold k0_pay6
    pointwise []

/-- The last store copies the scratch's last 32 rows to its first. -/
theorem tail_lo (xe : Vec Ideal S544x1024 .f32) (e : Fin 544) (he : e.val < 32) (c : Fin 1024) :
    v.read (Elt Ideal) (v.writes (Elt Ideal) f (tail xe :: L)) (ix2 e c) = xe (ix2 (⟨512 + e.val, by omega⟩ : Fin 544) c) := by
  refine (View.read_writes_cons_rows_of_mem v f (o := 0) _ _ L (ix2 e c) (ix2 (⟨e.val, he⟩ : Fin 32) c) rfl ?_ rfl).trans ?_
  · show e.val = 0 + e.val
    omega
  · unfold k0_pay1
    pointwise []

/-- The scratch of a sequence's first block: zeros, then the block's gated channels. -/
def rows0 (e : Nat) (c : Fin 1024) : EReal :=
  if h : 32 ≤ e ∧ e < 544 then
    gateRow (fun k => x (ix2 (⟨e - 32, by omega⟩ : Fin 512) k)) (fun k => g (ix2 0 k)) (fun k j => w (ix2 k j)) c
  else 0

/-- The scratch of a later block: what the block before left in the first 32 rows, then the block's gated channels. -/
def rows1 (xs : Vec Ideal S544x1024 .f32) (e : Nat) (c : Fin 1024) : EReal :=
  if h : 32 ≤ e ∧ e < 544 then
    gateRow (fun k => x (ix2 (⟨e - 32, by omega⟩ : Fin 512) k)) (fun k => g (ix2 0 k)) (fun k j => w (ix2 k j)) c
  else if h : e < 32 then xs (ix2 (⟨e, by omega⟩ : Fin 544) c) else 0

theorem read0_hi (e : Fin 544) (he : 32 ≤ e.val) (c : Fin 1024) :
    v.read (Elt Ideal) (v.writes (Elt Ideal) f (body x g w :: L)) (ix2 e c) = rows0 x g w e.val c := by
  rw [rows0, dif_pos ⟨he, e.isLt⟩]
  exact body_hi x g w v f L e he c

theorem read0 (e : Fin 544) (c : Fin 1024) :
    v.read (Elt Ideal) (v.writes (Elt Ideal) f [body x g w, zeros]) (ix2 e c) = rows0 x g w e.val c := by
  by_cases he : 32 ≤ e.val
  · exact read0_hi x g w v f _ e he c
  · rw [rows0, dif_neg (by omega)]
    exact (body_lo x g w v f _ e (by omega) c).trans (zeros_lo v f _ e (by omega) c)

theorem read1_hi (xs : Vec Ideal S544x1024 .f32) (e : Fin 544) (he : 32 ≤ e.val) (c : Fin 1024) :
    v.read (Elt Ideal) (v.writes (Elt Ideal) f (body x g w :: L)) (ix2 e c) = rows1 x g w xs e.val c := by
  rw [rows1, dif_pos ⟨he, e.isLt⟩]
  exact body_hi x g w v f L e he c

theorem read1 (xs : Vec Ideal S544x1024 .f32) (hf : v.read (Elt Ideal) f = xs) (e : Fin 544) (c : Fin 1024) :
    v.read (Elt Ideal) (v.writes (Elt Ideal) f [body x g w]) (ix2 e c) = rows1 x g w xs e.val c := by
  by_cases he : 32 ≤ e.val
  · exact read1_hi x g w v f _ xs e he c
  · rw [rows1, dif_neg (by omega), dif_pos (by omega)]
    exact (body_lo x g w v f _ e (by omega) c).trans (congrFun hf (ix2 e c))

end Scratch

end Cert.MixInProof

end
-- ==== Proof.MixInOut.lean ====
/-
  The mixer's first call, one grid point: what it writes to its two results and leaves in the scratch, entry by entry.
-/
module

public import proofs.«01_k».proof.Proof.MixInVal

@[expose] public section

set_option maxRecDepth 16384

noncomputable section

namespace Cert.MixInProof

open Idealize.ShloMosaic Idealize.ShloMosaic.TcCoe Idealize.SL.Sem Cert.Rows
open Cert.MixInIdeal Cert.MixInIdeal.Gen

theorem ld_x (X : Vec Ideal S512x2048 .f32) : View.ld X (Rect.unit ![0, 0] ![512, 2048] inb_S512x2048_S512x2048_0_0) = X :=
  View.ld_unit_zero hz _ X

theorem ld_g (X : Vec Ideal S1x2048 .f32) : View.ld X (Rect.unit ![0, 0] ![1, 2048] inb_S1x2048_S1x2048_0_0) = X :=
  View.ld_unit_zero hz _ X

theorem ld_c (X : Vec Ideal S1x1024 .f32) : View.ld X (Rect.unit ![0, 0] ![1, 1024] inb_S1x1024_S1x1024_0_0) = X :=
  View.ld_unit_zero hz _ X

theorem read_scan (f : VO0_9.ty.Contents (Elt Ideal)) (P : Vec Ideal S512x1024 .f32) (q : Fin 512) (l : Fin 1024) :
    VO0_9.read (Elt Ideal) (VO0_9.writes (Elt Ideal) f
      [⟨Rect.unit ![0, 0] ![512, 1024] inb_S512x1024_S512x1024_0_0, P⟩]) (ix2 q l) = P (ix2 q l) :=
  View.read_writes_cons_rows_of_mem VO0_9 f (o := 0) _ _ [] (ix2 q l) (ix2 q l) rfl (Nat.zero_add _).symm rfl

/-- At the first block of a sequence: the convolved channels. -/
theorem outA_yc
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : cond0_0 i) (x0 : Vec Ideal S512x2048 .f32)
    (x1 : Vec Ideal S1x2048 .f32) (x2 : Vec Ideal S2048x3072 .bf16) (x3 : Vec Ideal S31x1024 .f32) (x4 : Vec Ideal S1x1024 .f32) (x5 : Vec
    Ideal S1x1024 .f32) (x6 : Vec Ideal S1x1024 .f32) (x7 : Vec Ideal S1x1024 .f32) (q : Fin 512) (l : Fin 1024) :
    out0_A_8 (F := Ideal) c i arg1 harg1 arg2 harg2 arg3 harg3 arg4 harg4 arg5 harg5 arg6 harg6 arg7 harg7 arg8 harg8 arg9 harg9
    arg10 harg10 arg11 harg11 hc0 x0 x1 x2 x3 x4 x5 x6 x7 (ix2 q l) = blk x3 x4 x5 x6 x7 (rows0 x0 x1 x2) q l := by
  unfold out0_A_8
  rw [runA_yc]
  simp only [Memref.IsWhole.read_unread, ld_x, ld_g, ld_c]
  exact pieces_apply _ _ _ _ _ _ _ _ (read0 _ _ _ _ _) (read0_hi _ _ _ _ _ _) _ _ q l

/-- At the first block of a sequence: the scan's input. -/
theorem outA_u
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : cond0_0 i) (x0 : Vec Ideal S512x2048 .f32)
    (x1 : Vec Ideal S1x2048 .f32) (x2 : Vec Ideal S2048x3072 .bf16) (x3 : Vec Ideal S31x1024 .f32) (x4 : Vec Ideal S1x1024 .f32) (x5 : Vec
    Ideal S1x1024 .f32) (x6 : Vec Ideal S1x1024 .f32) (x7 : Vec Ideal S1x1024 .f32) (q : Fin 512) (l : Fin 1024) :
    out0_A_9 (F := Ideal) c i arg1 harg1 arg2 harg2 arg3 harg3 arg4 harg4 arg5 harg5 arg6 harg6 arg7 harg7 arg8 harg8 arg9 harg9
    arg10 harg10 arg11 harg11 hc0 x0 x1 x2 x3 x4 x5 x6 x7 (ix2 q l)
      = scanRow (fun k => x0 (ix2 q k)) (fun k => x1 (ix2 0 k)) (fun k j => x2 (ix2 k j)) l := by
  unfold out0_A_9
  rw [runA_u]
  simp only [Memref.IsWhole.read_unread, ld_x, ld_g]
  exact (read_scan _ _ q l).trans (scan_apply x0 x1 x2 q l)

/-- At the first block of a sequence: the scratch's first rows, carried to the next block. -/
theorem outA_scr
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : cond0_0 i) (x0 : Vec Ideal S512x2048 .f32)
    (x1 : Vec Ideal S1x2048 .f32) (x2 : Vec Ideal S2048x3072 .bf16) (x3 : Vec Ideal S31x1024 .f32) (x4 : Vec Ideal S1x1024 .f32) (x5 : Vec
    Ideal S1x1024 .f32) (x6 : Vec Ideal S1x1024 .f32) (x7 : Vec Ideal S1x1024 .f32) (e : Fin 544) (he : e.val < 32) (l : Fin 1024) (r : Fin 512) (hr : r.val = 480 + e.val) :
    sout0_A_0 (F := Ideal) c i arg1 harg1 arg2 harg2 arg3 harg3 arg4 harg4 arg5 harg5 arg6 harg6 arg7 harg7 arg8 harg8 arg9 harg9
    arg10 harg10 arg11 harg11 hc0 x0 x1 x2 x3 x4 x5 x6 x7 (ix2 e l)
      = gateRow (fun k => x0 (ix2 r k)) (fun k => x1 (ix2 0 k)) (fun k j => x2 (ix2 k j)) l := by
  unfold sout0_A_0
  rw [runA_scr]
  simp only [Memref.IsWhole.read_unread, ld_x, ld_g]
  refine (tail_lo _ _ _ _ e he l).trans ((body_hi _ _ _ _ _ _ ⟨512 + e.val, by omega⟩ (by show 32 ≤ 512 + e.val; omega) l).trans ?_)
  exact congrArg (fun r : Fin 512 => gateRow (fun k => x0 (ix2 r k)) (fun k => x1 (ix2 0 k)) (fun k j => x2 (ix2 k j)) l)
    (Fin.ext (by show 512 + e.val - 32 = r.val; omega))

/-- At a later block: the convolved channels. -/
theorem outB_yc
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : ¬cond0_0 i) (x0 : Vec Ideal S512x2048 .f32)
    (x1 : Vec Ideal S1x2048 .f32) (x2 : Vec Ideal S2048x3072 .bf16) (x3 : Vec Ideal S31x1024 .f32) (x4 : Vec Ideal S1x1024 .f32) (x5 : Vec
    Ideal S1x1024 .f32) (x6 : Vec Ideal S1x1024 .f32) (x7 : Vec Ideal S1x1024 .f32) (xs0 : Vec Ideal S544x1024 .f32) (q : Fin 512) (l : Fin 1024) :
    out0_B_8 (F := Ideal) c i arg1 harg1 arg2 harg2 arg3 harg3 arg4 harg4 arg5 harg5 arg6 harg6 arg7 harg7 arg8 harg8 arg9 harg9
    arg10 harg10 arg11 harg11 hc0 x0 x1 x2 x3 x4 x5 x6 x7 xs0 (ix2 q l) = blk x3 x4 x5 x6 x7 (rows1 x0 x1 x2 xs0) q l := by
  unfold out0_B_8
  rw [runB_yc]
  simp only [Memref.IsWhole.read_unread, ld_x, ld_g, ld_c]
  exact pieces_apply _ _ _ _ _ _ _ _ (read1 _ _ _ _ _ _ (harg11.read_unread _)) (read1_hi _ _ _ _ _ _ _) _ _ q l

/-- At a later block: the scan's input. -/
theorem outB_u
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : ¬cond0_0 i) (x0 : Vec Ideal S512x2048 .f32)
    (x1 : Vec Ideal S1x2048 .f32) (x2 : Vec Ideal S2048x3072 .bf16) (x3 : Vec Ideal S31x1024 .f32) (x4 : Vec Ideal S1x1024 .f32) (x5 : Vec
    Ideal S1x1024 .f32) (x6 : Vec Ideal S1x1024 .f32) (x7 : Vec Ideal S1x1024 .f32) (xs0 : Vec Ideal S544x1024 .f32) (q : Fin 512) (l : Fin 1024) :
    out0_B_9 (F := Ideal) c i arg1 harg1 arg2 harg2 arg3 harg3 arg4 harg4 arg5 harg5 arg6 harg6 arg7 harg7 arg8 harg8 arg9 harg9
    arg10 harg10 arg11 harg11 hc0 x0 x1 x2 x3 x4 x5 x6 x7 xs0 (ix2 q l)
      = scanRow (fun k => x0 (ix2 q k)) (fun k => x1 (ix2 0 k)) (fun k j => x2 (ix2 k j)) l := by
  unfold out0_B_9
  rw [runB_u]
  simp only [Memref.IsWhole.read_unread, ld_x, ld_g]
  exact (read_scan _ _ q l).trans (scan_apply x0 x1 x2 q l)

/-- At a later block: the scratch's first rows, carried to the next block. -/
theorem outB_scr
    (c : Dev nD) (i : grid0.Coords) (arg1 : Memref sig .tc .vmem S512x2048 .f32) (harg1 : arg1.IsWhole) (arg2 : Memref sig
    .tc .vmem S1x2048 .f32) (harg2 : arg2.IsWhole) (arg3 : Memref sig .tc .vmem S2048x3072 .bf16) (harg3 : arg3.IsWhole)
    (arg4 : Memref sig .tc .vmem S31x1024 .f32) (harg4 : arg4.IsWhole) (arg5 : Memref sig .tc .vmem S1x1024 .f32) (harg5 :
    arg5.IsWhole) (arg6 : Memref sig .tc .vmem S1x1024 .f32) (harg6 : arg6.IsWhole) (arg7 : Memref sig .tc .vmem S1x1024
    .f32) (harg7 : arg7.IsWhole) (arg8 : Memref sig .tc .vmem S1x1024 .f32) (harg8 : arg8.IsWhole) (arg9 : Memref sig .tc
    .vmem S512x1024 .bf16) (harg9 : arg9.IsWhole) (arg10 : Memref sig .tc .vmem S512x1024 .f32) (harg10 : arg10.IsWhole)
    (arg11 : Memref sig .tc .vmem S544x1024 .f32) (harg11 : arg11.IsWhole) (hc0 : ¬cond0_0 i) (x0 : Vec Ideal S512x2048 .f32)
    (x1 : Vec Ideal S1x2048 .f32) (x2 : Vec Ideal S2048x3072 .bf16) (x3 : Vec Ideal S31x1024 .f32) (x4 : Vec Ideal S1x1024 .f32) (x5 : Vec
    Ideal S1x1024 .f32) (x6 : Vec Ideal S1x1024 .f32) (x7 : Vec Ideal S1x1024 .f32) (xs0 : Vec Ideal S544x1024 .f32) (e : Fin 544) (he : e.val < 32) (l : Fin 1024) (r : Fin 512) (hr : r.val = 480 + e.val) :
    sout0_B_0 (F := Ideal) c i arg1 harg1 arg2 harg2 arg3 harg3 arg4 harg4 arg5 harg5 arg6 harg6 arg7 harg7 arg8 harg8 arg9 harg9
    arg10 harg10 arg11 harg11 hc0 x0 x1 x2 x3 x4 x5 x6 x7 xs0 (ix2 e l)
      = gateRow (fun k => x0 (ix2 r k)) (fun k => x1 (ix2 0 k)) (fun k j => x2 (ix2 k j)) l := by
  unfold sout0_B_0
  rw [runB_scr]
  simp only [Memref.IsWhole.read_unread, ld_x, ld_g]
  refine (tail_lo _ _ _ _ e he l).trans ((body_hi _ _ _ _ _ _ ⟨512 + e.val, by omega⟩ (by show 32 ≤ 512 + e.val; omega) l).trans ?_)
  exact congrArg (fun r : Fin 512 => gateRow (fun k => x0 (ix2 r k)) (fun k => x1 (ix2 0 k)) (fun k j => x2 (ix2 k j)) l)
    (Fin.ext (by show 512 + e.val - 32 = r.val; omega))

end Cert.MixInProof

end
-- ==== Proof.MixInRef.lean ====
/-
  The reference of the mixer's first call at an entry: its two results are `mixIn` and `scanRow`.
-/
module

public import proofs.«01_k».proof.Proof.MixInRow
public import proofs.«01_k».proof.Proof.Gen.MixInRefIdeal.Read
public import Idealize.ShloMosaic.Lib.KernelVsHost

@[expose] public section

set_option maxRecDepth 16384

noncomputable section

namespace Cert.MixInProof

open Idealize.ShloMosaic Idealize.ShloMosaic.TcCoe Idealize.SL.Sem Cert.Rows
open Cert.MixInRefIdeal Cert.MixInRefIdeal.Gen Cert.MixInRefIdeal.Read

/-- Row `s` of sequence `b`. -/
def rowOf (b : Fin 2) (s : Fin 4096) : Fin 8192 := ⟨b.val * 4096 + s.val, by omega⟩

variable (x : Vec Ideal S8192x2048 .f32) (g : Vec Ideal S1x2048 .f32) (w : Vec Ideal S2048x3072 .f32) (cw : Vec Ideal S31x1024 .f32)
  (cb lg lb gg : Vec Ideal S1x1024 .f32)

theorem v0_apply (b : Fin 2) (s : Fin 4096) (k : Fin 2048) : val_main_v0 (F := Ideal) x (ix3 b s k) = x (ix2 (rowOf b s) k) := by
  rw [val_main_v0_apply]
  refine congrArg x (funext fun a => Fin.ext ?_)
  match a with
  | ⟨0, _⟩ => show ((b.val * 4096 + s.val) * 2048 + k.val) / 2048 = b.val * 4096 + s.val; omega
  | ⟨1, _⟩ => show ((b.val * 4096 + s.val) * 2048 + k.val) % 2048 = k.val; omega

/-- The projection. -/
theorem v14_apply (b : Fin 2) (s : Fin 4096) (l : Fin 3072) :
    val_main_v14 (F := Ideal) x g w (ix3 b s l)
      = proj (fun k => x (ix2 (rowOf b s) k)) (fun k => g (ix2 0 k)) (fun k j => w (ix2 k j)) l := by
  unfold val_main_v14 val_main_v13 val_main_v12 val_main_v11 val_main_v10 val_main_v9 val_main_v8 val_main_v7 val_main_v6 val_main_v5
    val_main_v4 val_main_v3 val_main_v2 val_main_v1 val_main_cst val_main_cst_0 val_main_cst_1 proj vecMat rms
  simp only [← v0_apply x b s]
  generalize val_main_v0 (F := Ideal) x = y
  pointwise [dot_S2x4096x2048_S2048x3072_S2x4096x3072_2_0_01_1_n_n]

/-- The convolution's input. -/
theorem v23_apply (b : Fin 2) (s : Fin 4096) (l : Fin 1024) :
    val_main_v23 (F := Ideal) x g w (ix3 b s l)
      = gateRow (fun k => x (ix2 (rowOf b s) k)) (fun k => g (ix2 0 k)) (fun k j => w (ix2 k j)) l := by
  unfold val_main_v23 val_main_v22 val_main_v21 val_main_v20 val_main_v19 val_main_v18 val_main_v17 val_main_v16 val_main_v15
    val_main_cst_2 val_main_cst_3 gateRow
  simp only [← v14_apply x g w b s]
  generalize val_main_v14 (F := Ideal) x g w = y
  pointwise []
  rfl

/-- The second result. -/
theorem ref_u_apply (R : Fin 8192) (l : Fin 1024) :
    val_main_v289 (F := Ideal) x g w (ix2 R l)
      = scanRow (fun k => x (ix2 R k)) (fun k => g (ix2 0 k)) (fun k j => w (ix2 k j)) l := by
  obtain ⟨b, s, hR⟩ : ∃ (b : Fin 2) (s : Fin 4096), R = rowOf b s :=
    ⟨⟨R.val / 4096, by omega⟩, ⟨R.val % 4096, by omega⟩, Fin.ext (by show R.val = R.val / 4096 * 4096 + R.val % 4096; omega)⟩
  subst hR
  rw [val_main_v289_apply]
  have e : idx_main_v289 (ix2 (rowOf b s) l) = ix3 b s l := funext fun a => Fin.ext (by
    match a with
    | ⟨0, _⟩ => show ((b.val * 4096 + s.val) * 1024 + l.val) / 4194304 = b.val; omega
    | ⟨1, _⟩ => show ((b.val * 4096 + s.val) * 1024 + l.val) / 1024 % 4096 = s.val; omega
    | ⟨2, _⟩ => show ((b.val * 4096 + s.val) * 1024 + l.val) % 1024 = l.val; omega)
  rw [e]
  unfold val_main_v24 scanRow
  simp only [← v14_apply x g w b s]
  generalize val_main_v14 (F := Ideal) x g w = y
  pointwise []

/-! ## The convolution -/

theorem slices_w (k : Nat) (h : k < 31) : S31x1024.Slices ![k, 0] S1x1024 :=
  ⟨rfl, fun a => match a with
    | ⟨0, _⟩ => by show k + 1 ≤ 31; omega
    | ⟨1, _⟩ => by show 0 + 1024 ≤ 1024; omega⟩

theorem slices_p (k : Nat) (h : k < 31) : S2x4126x1024.Slices ![0, k, 0] S2x4096x1024 :=
  ⟨rfl, fun a => match a with
    | ⟨0, _⟩ => by show 0 + 2 ≤ 2; omega
    | ⟨1, _⟩ => by show k + 4096 ≤ 4126; omega
    | ⟨2, _⟩ => by show 0 + 1024 ≤ 1024; omega⟩

/-- One tap of the reference: the shifted rows times their weight. -/
def refTap (p : Vec Ideal S2x4126x1024 .f32) (cw : Vec Ideal S31x1024 .f32) (k : Nat) (h : k < 31) : FVec Ideal S2x4096x1024 .f32 :=
  mulf (extractStridedSlice S2x4096x1024 ![0, k, 0] p (slices_p k h))
    (broadcastInDim S2x4096x1024 ![0, 1, 2] bcast_S1x1x1024_S2x4096x1024_0_1_2 (broadcastInDim S1x1x1024 ![2] bcast_S1024_S1x1x1024_2
      (shapeCast S1024 (extractStridedSlice S1x1024 ![k, 0] cw (slices_w k h)) shapeCasts_S1x1024_S1024)))

/-- The sum of the reference's taps up to `k`. -/
def refTaps (p : Vec Ideal S2x4126x1024 .f32) (cw : Vec Ideal S31x1024 .f32) : (k : Nat) → k < 31 → FVec Ideal S2x4096x1024 .f32
  | 0, h => refTap p cw 0 h
  | k + 1, h => addf (refTaps p cw k (Nat.lt_of_succ_lt h)) (refTap p cw (k + 1) h)

/-- The reference's sum is that one. -/
theorem v241_eq : val_main_v241 (F := Ideal) x g w cw = refTaps (val_main_v25 (F := Ideal) x g w) cw 30 (by omega) := rfl

theorem refTap_apply (p : Vec Ideal S2x4126x1024 .f32) (k : Nat) (h : k < 31) (b : Fin 2) (s : Fin 4096) (l : Fin 1024) :
    refTap p cw k h (ix3 b s l) = p (ix3 b ⟨s.val + k, by omega⟩ l) * cw (ix2 ⟨k, h⟩ l) := by
  unfold refTap
  pointwise []
  exact congrArg (fun e => p (ix3 b e l) * _) (Fin.ext (Nat.add_comm k s.val))

theorem refTaps_apply (p : Vec Ideal S2x4126x1024 .f32) (q : Nat → EReal) (b : Fin 2) (s : Fin 4096) (l : Fin 1024)
    (hq : ∀ (k : Nat) (h : k < 31), p (ix3 b ⟨s.val + k, by omega⟩ l) = q k) : ∀ (k : Nat) (h : k < 31),
    refTaps p cw k h (ix3 b s l) = ∑ i ∈ Finset.range (k + 1), q i * weight (fun j => cw (ix2 j l)) i
  | 0, h => by
    rw [Finset.sum_range_one]
    refine (refTap_apply cw p 0 h b s l).trans ?_
    rw [hq 0 h, weight, dif_pos h]
  | k + 1, h => by
    rw [Finset.sum_range_succ, ← refTaps_apply p q b s l hq k (Nat.lt_of_succ_lt h)]
    refine congrArg (_ + ·) ((refTap_apply cw p (k + 1) h b s l).trans ?_)
    rw [hq (k + 1) h, weight, dif_pos h]

/-- The padded rows as the convolution reads them. -/
theorem v25_apply (b : Fin 2) (s : Fin 4096) (l : Fin 1024) (k : Nat) (h : k < 31) :
    val_main_v25 (F := Ideal) x g w (ix3 b ⟨s.val + k, by omega⟩ l)
      = padded (fun T => gateRow (fun k => x (ix2 T k)) (fun k => g (ix2 0 k)) (fun k j => w (ix2 k j)) l) (rowOf b s) k := by
  have hm : (rowOf b s).val % 4096 = s.val := by show (b.val * 4096 + s.val) % 4096 = s.val; omega
  unfold val_main_v25 padded
  by_cases hk : 30 ≤ s.val + k
  · rw [dif_pos (by omega)]
    refine (pad_apply_of_inside _ _ _ _ _ _ _ _ (ix3 b (⟨s.val + k - 30, by omega⟩ : Fin 4096) l) (fun a => ?_)).trans ?_
    · match a with
      | ⟨0, _⟩ => show b.val = 0 + b.val * (0 + 1); omega
      | ⟨1, _⟩ => show s.val + k = 30 + (s.val + k - 30) * (0 + 1); omega
      | ⟨2, _⟩ => show l.val = 0 + l.val * (0 + 1); omega
    · rw [v23_apply]
      have e : rowOf b (⟨s.val + k - 30, by omega⟩ : Fin 4096) = ⟨(rowOf b s).val + k - 30, by omega⟩ :=
        Fin.ext (by show b.val * 4096 + (s.val + k - 30) = b.val * 4096 + s.val + k - 30; omega)
      rw [e]
  · rw [dif_neg (by omega)]
    refine (pad_apply_of_not_inside _ _ _ _ _ _ _ _ 1 (fun hin => hk hin.1)).trans ?_
    show FloatOps.sitofp (F := Ideal) .f32 (0#32) = 0
    simp [FloatOps.sitofp]

/-- The convolved channels. -/
theorem v244_apply (b : Fin 2) (s : Fin 4096) (l : Fin 1024) :
    val_main_v244 (F := Ideal) x g w cw cb (ix3 b s l)
      = conv (padded (fun T => gateRow (fun k => x (ix2 T k)) (fun k => g (ix2 0 k)) (fun k j => w (ix2 k j)) l) (rowOf b s))
          (fun k => cw (ix2 k l)) (cb (ix2 0 l)) := by
  unfold conv
  rw [← refTaps_apply cw (val_main_v25 (F := Ideal) x g w) _ b s l (v25_apply x g w b s l) 30 (by omega), ← v241_eq]
  unfold val_main_v244 val_main_v243 val_main_v242
  generalize val_main_v241 (F := Ideal) x g w cw = y
  pointwise []

/-! ## What follows the convolution -/

theorem v250_apply (b : Fin 2) (s : Fin 4096) (l : Fin 1024) :
    val_main_v250 (F := Ideal) x g w cw cb (ix3 b s l)
      = centred (fun c => val_main_v244 (F := Ideal) x g w cw cb (ix3 b s c)) l := by
  unfold val_main_v250 val_main_v249 val_main_v248 val_main_v247 val_main_v246 val_main_v245 val_main_cst_4 val_main_cst_5 centred
  generalize val_main_v244 (F := Ideal) x g w cw cb = y
  pointwise []

theorem v266_apply (b : Fin 2) (s : Fin 4096) (l : Fin 1024) :
    val_main_v266 (F := Ideal) x g w cw cb lg lb (ix3 b s l)
      = layerNorm (fun c => val_main_v244 (F := Ideal) x g w cw cb (ix3 b s c)) (fun c => lg (ix2 0 c)) (fun c => lb (ix2 0 c)) l := by
  unfold val_main_v266 val_main_v265 val_main_v264 val_main_v263 val_main_v262 val_main_v261 val_main_v260 val_main_v259 val_main_v258
    val_main_v257 val_main_v256 val_main_v255 val_main_v254 val_main_v253 val_main_v252 val_main_v251 val_main_cst_6 val_main_cst_7
    val_main_cst_8 layerNorm
  simp only [← v250_apply x g w cw cb b s]
  generalize val_main_v250 (F := Ideal) x g w cw cb = y
  pointwise []

theorem v273_apply (b : Fin 2) (s : Fin 4096) (l : Fin 1024) :
    val_main_v273 (F := Ideal) x g w cw cb lg lb (ix3 b s l)
      = swish (layerNorm (fun c => val_main_v244 (F := Ideal) x g w cw cb (ix3 b s c)) (fun c => lg (ix2 0 c)) fun c => lb (ix2 0 c)) l := by
  unfold val_main_v273 val_main_v272 val_main_v271 val_main_v270 val_main_v269 val_main_v268 val_main_v267 val_main_cst_9
    val_main_cst_10 swish
  simp only [← v266_apply x g w cw cb lg lb b s]
  generalize val_main_v266 (F := Ideal) x g w cw cb lg lb = y
  pointwise []
  rfl

theorem v286_apply (b : Fin 2) (s : Fin 4096) (l : Fin 1024) :
    val_main_v286 (F := Ideal) x g w cw cb lg lb gg (ix3 b s l)
      = post (fun c => val_main_v244 (F := Ideal) x g w cw cb (ix3 b s c)) (fun c => lg (ix2 0 c)) (fun c => lb (ix2 0 c))
          (fun c => gg (ix2 0 c)) l := by
  unfold val_main_v286 val_main_v285 val_main_v284 val_main_v283 val_main_v282 val_main_v281 val_main_v280 val_main_v279 val_main_v278
    val_main_v277 val_main_v276 val_main_v275 val_main_v274 val_main_cst_11 val_main_cst_12 val_main_cst_13 post rms
  simp only [← v273_apply x g w cw cb lg lb b s]
  generalize val_main_v273 (F := Ideal) x g w cw cb lg lb = y
  pointwise []

/-- The first result. -/
theorem ref_yc_apply (R : Fin 8192) (l : Fin 1024) :
    val_main_v288 (F := Ideal) x g w cw cb lg lb gg (ix2 R l)
      = mixIn (fun T k => x (ix2 T k)) (fun k => g (ix2 0 k)) (fun k j => w (ix2 k j)) (fun k c => cw (ix2 k c))
          (fun c => cb (ix2 0 c)) (fun c => lg (ix2 0 c)) (fun c => lb (ix2 0 c)) (fun c => gg (ix2 0 c)) R l := by
  obtain ⟨b, s, hR⟩ : ∃ (b : Fin 2) (s : Fin 4096), R = rowOf b s :=
    ⟨⟨R.val / 4096, by omega⟩, ⟨R.val % 4096, by omega⟩, Fin.ext (by show R.val = R.val / 4096 * 4096 + R.val % 4096; omega)⟩
  subst hR
  rw [val_main_v288_apply]
  have e : idx_main_v288 (ix2 (rowOf b s) l) = ix3 b s l := funext fun a => Fin.ext (by
    match a with
    | ⟨0, _⟩ => show ((b.val * 4096 + s.val) * 1024 + l.val) / 4194304 = b.val; omega
    | ⟨1, _⟩ => show ((b.val * 4096 + s.val) * 1024 + l.val) / 1024 % 4096 = s.val; omega
    | ⟨2, _⟩ => show ((b.val * 4096 + s.val) * 1024 + l.val) % 1024 = l.val; omega)
  rw [e, val_main_v287_apply]
  refine (v286_apply x g w cw cb lg lb gg b s l).trans ?_
  simp only [v244_apply]
  rfl

end Cert.MixInProof

end
-- ==== Proof.MixIn.lean ====
/-
  The mixer's first call: both result arrays of the kernel and of the reference, as `mixIn` and `scanRow`.
-/
module

public import proofs.«01_k».proof.Defs
public import proofs.«01_k».proof.Proof.MixInOut
public import proofs.«01_k».proof.Proof.MixInRef
public import proofs.«01_k».proof.Proof.Gen.MixInRefIdeal.Run
public import Idealize.ShloMosaic.Lib.Quiescent

@[expose] public section

set_option maxRecDepth 16384

noncomputable section

namespace Cert.MixInProof

open Idealize.ShloMosaic Idealize.ShloMosaic.TcCoe Idealize.SL.Sem Cert.Rows
open Idealize.ShloMosaic.Pipeline (Dat)

/-! ## Equal entries give equal rows -/

theorem conv_congr {p p' : Nat → EReal} {cw cw' : Fin 31 → EReal} {cb cb' : EReal} (hp : ∀ i, i < 31 → p i = p' i)
    (hw : ∀ k, cw k = cw' k) (hb : cb = cb') : conv p cw cb = conv p' cw' cb' := by
  rw [show cw = cw' from funext hw, hb]
  exact congrArg (· + cb') (Finset.sum_congr rfl fun i hi => by rw [hp i (Finset.mem_range.mp hi)])

theorem post_congr {y y' lg lg' lb lb' gg gg' : Fin 1024 → EReal} (hy : ∀ c, y c = y' c) (h1 : ∀ c, lg c = lg' c)
    (h2 : ∀ c, lb c = lb' c) (h3 : ∀ c, gg c = gg' c) (l : Fin 1024) : post y lg lb gg l = post y' lg' lb' gg' l := by
  rw [show y = y' from funext hy, show lg = lg' from funext h1, show lb = lb' from funext h2, show gg = gg' from funext h3]

theorem gateRow_congr {x x' g g' : Fin 2048 → EReal} {w w' : Fin 2048 → Fin 3072 → EReal} (hx : ∀ k, x k = x' k)
    (hg : ∀ k, g k = g' k) (hw : ∀ k j, w k j = w' k j) (l : Fin 1024) : gateRow x g w l = gateRow x' g' w' l := by
  rw [show x = x' from funext hx, show g = g' from funext hg, show w = w' from funext fun k => funext (hw k)]

theorem scanRow_congr {x x' g g' : Fin 2048 → EReal} {w w' : Fin 2048 → Fin 3072 → EReal} (hx : ∀ k, x k = x' k)
    (hg : ∀ k, g k = g' k) (hw : ∀ k j, w k j = w' k j) (l : Fin 1024) : scanRow x g w l = scanRow x' g' w' l := by
  rw [show x = x' from funext hx, show g = g' from funext hg, show w = w' from funext fun k => funext (hw k)]

section Kernel

open Cert.MixInIdeal Cert.MixInIdeal.Gen

variable (m : (ℓ : Loc nD τ sig) → Buf (Elt Ideal) ℓ) (ρ : Dev nD → PrngReg)

/-- The gated channels of row `T`. -/
abbrev chan (c : Dev nD) (l : Fin 1024) (T : Fin 8192) : EReal :=
  gateRow (fun k => m ((c : Thread nD τ).loc main_arg0) (ix2 T k)) (fun k => m ((c : Thread nD τ).loc main_arg1) (ix2 0 k))
    (fun k j => m ((c : Thread nD τ).loc main_arg2) (ix2 k j)) l

/-- The kernel's first result array. -/
abbrev G8 (c : Dev nD) : Buf (Elt Ideal) ((c : Thread nD τ).loc main_v1_0) := fun i : S8192x1024.Idx =>
  mixIn (fun T k => m ((c : Thread nD τ).loc main_arg0) (ix2 T k)) (fun k => m ((c : Thread nD τ).loc main_arg1) (ix2 0 k))
    (fun k j => m ((c : Thread nD τ).loc main_arg2) (ix2 k j)) (fun k l => m ((c : Thread nD τ).loc main_arg3) (ix2 k l))
    (fun l => m ((c : Thread nD τ).loc main_arg4) (ix2 0 l)) (fun l => m ((c : Thread nD τ).loc main_arg5) (ix2 0 l))
    (fun l => m ((c : Thread nD τ).loc main_arg6) (ix2 0 l)) (fun l => m ((c : Thread nD τ).loc main_arg7) (ix2 0 l)) (i 0) (i 1)

/-- The kernel's second result array. -/
abbrev G9 (c : Dev nD) : Buf (Elt Ideal) ((c : Thread nD τ).loc main_v1_1) := fun i : S8192x1024.Idx =>
  scanRow (fun k => m ((c : Thread nD τ).loc main_arg0) (ix2 (i 0) k)) (fun k => m ((c : Thread nD τ).loc main_arg1) (ix2 0 k))
    (fun k j => m ((c : Thread nD τ).loc main_arg2) (ix2 k j)) (i 1)

/-- Where each window's block lies at a grid point: the rows and the results move with the point, the weights not at all. -/
theorem idx_facts : ∀ t : Fin grid0.N, t.val < 16 ∧ (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0) ∧ (win0_9.index t 0 = t.val ∧ win0_9.index t 1 = 0) := by decide +kernel

/-- The weights as the kernel reads them: those of the argument, whose cast is the identity here. -/
theorem V_w (c : Dev nD) (i : S2048x3072.Idx) : V m c main_v0 i = m ((c : Thread nD τ).loc main_arg2) i := by
  unfold V hostOps0
  after_results_simp
  rfl

theorem iblk0 (c : Dev nD) (t : Fin cfg0.N) (r : Fin 512) (k : Fin 2048) (R : Fin 8192) (hR : R.val = t.val * 512 + r.val) :
    iblk m c 0 t (ix2 r k) = m ((c : Thread nD τ).loc main_arg0) (ix2 R k) := by
  have h := idx_facts t
  show V m c main_arg0 ((win0_0.rect t).emb (ix2 r k)) = _
  rw [V_main_arg0]
  refine congrArg (m ((c : Thread nD τ).loc main_arg0)) (funext fun a => Fin.ext ?_)
  refine (win0_0.rect_emb_val t (ix2 r k) a).trans ?_
  match a with
  | ⟨0, _⟩ => show win0_0.index t 0 * 512 + r.val = R.val; omega
  | ⟨1, _⟩ => show win0_0.index t 1 * 2048 + k.val = k.val; omega

theorem iblk2 (c : Dev nD) (t : Fin cfg0.N) (k : Fin 2048) (j : Fin 3072) :
    iblk m c 2 t (ix2 k j) = m ((c : Thread nD τ).loc main_arg2) (ix2 k j) := by
  have h := idx_facts t
  show V m c main_v0 ((win0_2.rect t).emb (ix2 k j)) = _
  rw [V_w]
  refine congrArg (m ((c : Thread nD τ).loc main_arg2)) (funext fun a => Fin.ext ?_)
  refine (win0_2.rect_emb_val t (ix2 k j) a).trans ?_
  match a with
  | ⟨0, _⟩ => show win0_2.index t 0 * 2048 + k.val = k.val; omega
  | ⟨1, _⟩ => show win0_2.index t 1 * 3072 + j.val = j.val; omega

theorem iblk3 (c : Dev nD) (t : Fin cfg0.N) (k : Fin 31) (j : Fin 1024) :
    iblk m c 3 t (ix2 k j) = m ((c : Thread nD τ).loc main_arg3) (ix2 k j) := by
  have h := idx_facts t
  show V m c main_arg3 ((win0_3.rect t).emb (ix2 k j)) = _
  rw [V_main_arg3]
  refine congrArg (m ((c : Thread nD τ).loc main_arg3)) (funext fun a => Fin.ext ?_)
  refine (win0_3.rect_emb_val t (ix2 k j) a).trans ?_
  match a with
  | ⟨0, _⟩ => show win0_3.index t 0 * 31 + k.val = k.val; omega
  | ⟨1, _⟩ => show win0_3.index t 1 * 1024 + j.val = j.val; omega

theorem iblk1 (c : Dev nD) (t : Fin cfg0.N) (k : Fin 2048) :
    iblk m c 1 t (ix2 0 k) = m ((c : Thread nD τ).loc main_arg1) (ix2 0 k) := by
  have h := idx_facts t
  show V m c main_arg1 ((win0_1.rect t).emb (ix2 0 k)) = _
  rw [V_main_arg1]
  refine congrArg (m ((c : Thread nD τ).loc main_arg1)) (funext fun a => Fin.ext ?_)
  refine (win0_1.rect_emb_val t (ix2 0 k) a).trans ?_
  match a with
  | ⟨0, _⟩ => show win0_1.index t 0 * 1 + 0 = 0; omega
  | ⟨1, _⟩ => show win0_1.index t 1 * 2048 + k.val = k.val; omega

theorem iblk4 (c : Dev nD) (t : Fin cfg0.N) (k : Fin 1024) :
    iblk m c 4 t (ix2 0 k) = m ((c : Thread nD τ).loc main_arg4) (ix2 0 k) := by
  have h := idx_facts t
  show V m c main_arg4 ((win0_4.rect t).emb (ix2 0 k)) = _
  rw [V_main_arg4]
  refine congrArg (m ((c : Thread nD τ).loc main_arg4)) (funext fun a => Fin.ext ?_)
  refine (win0_4.rect_emb_val t (ix2 0 k) a).trans ?_
  match a with
  | ⟨0, _⟩ => show win0_4.index t 0 * 1 + 0 = 0; omega
  | ⟨1, _⟩ => show win0_4.index t 1 * 1024 + k.val = k.val; omega

theorem iblk5 (c : Dev nD) (t : Fin cfg0.N) (k : Fin 1024) :
    iblk m c 5 t (ix2 0 k) = m ((c : Thread nD τ).loc main_arg5) (ix2 0 k) := by
  have h := idx_facts t
  show V m c main_arg5 ((win0_5.rect t).emb (ix2 0 k)) = _
  rw [V_main_arg5]
  refine congrArg (m ((c : Thread nD τ).loc main_arg5)) (funext fun a => Fin.ext ?_)
  refine (win0_5.rect_emb_val t (ix2 0 k) a).trans ?_
  match a with
  | ⟨0, _⟩ => show win0_5.index t 0 * 1 + 0 = 0; omega
  | ⟨1, _⟩ => show win0_5.index t 1 * 1024 + k.val = k.val; omega

theorem iblk6 (c : Dev nD) (t : Fin cfg0.N) (k : Fin 1024) :
    iblk m c 6 t (ix2 0 k) = m ((c : Thread nD τ).loc main_arg6) (ix2 0 k) := by
  have h := idx_facts t
  show V m c main_arg6 ((win0_6.rect t).emb (ix2 0 k)) = _
  rw [V_main_arg6]
  refine congrArg (m ((c : Thread nD τ).loc main_arg6)) (funext fun a => Fin.ext ?_)
  refine (win0_6.rect_emb_val t (ix2 0 k) a).trans ?_
  match a with
  | ⟨0, _⟩ => show win0_6.index t 0 * 1 + 0 = 0; omega
  | ⟨1, _⟩ => show win0_6.index t 1 * 1024 + k.val = k.val; omega

theorem iblk7 (c : Dev nD) (t : Fin cfg0.N) (k : Fin 1024) :
    iblk m c 7 t (ix2 0 k) = m ((c : Thread nD τ).loc main_arg7) (ix2 0 k) := by
  have h := idx_facts t
  show V m c main_arg7 ((win0_7.rect t).emb (ix2 0 k)) = _
  rw [V_main_arg7]
  refine congrArg (m ((c : Thread nD τ).loc main_arg7)) (funext fun a => Fin.ext ?_)
  refine (win0_7.rect_emb_val t (ix2 0 k) a).trans ?_
  match a with
  | ⟨0, _⟩ => show win0_7.index t 0 * 1 + 0 = 0; omega
  | ⟨1, _⟩ => show win0_7.index t 1 * 1024 + k.val = k.val; omega

/-- The gated channels of the point's block are those of its rows. -/
theorem gate_blk (c : Dev nD) (t : Fin cfg0.N) (r : Fin 512) (l : Fin 1024) (R : Fin 8192) (hR : R.val = t.val * 512 + r.val) :
    gateRow (fun k => iblk m c 0 t (ix2 r k)) (fun k => iblk m c 1 t (ix2 0 k)) (fun k j => iblk m c 2 t (ix2 k j)) l = chan m c l R :=
  gateRow_congr (fun k => iblk0 m c t r k R hR) (iblk1 m c t) (iblk2 m c t) l

/-- After each point the scratch's first 32 rows hold the gated channels of the block's last 32 rows. -/
theorem carried (c : Dev nD) (t : Fin cfg0.N) (e : Fin 544) (he : e.val < 32) (l : Fin 1024) (R : Fin 8192)
    (hR : R.val = t.val * 512 + 480 + e.val) : (outsAt0 m c t.val t.isLt).2.2 (ix2 e l) = chan m c l R := by
  by_cases h0 : t.val % 8 = 0
  · rw [outsAt0_A m c t h0]
    dsimp only
    exact (outA_scr (e := e) (he := he) (l := l) (r := ⟨480 + e.val, by omega⟩) (hr := rfl) ..).trans
      (gate_blk m c t _ l R (by show R.val = t.val * 512 + (480 + e.val); omega))
  · rw [outsAt0_B m c t h0]
    dsimp only
    exact (outB_scr (e := e) (he := he) (l := l) (r := ⟨480 + e.val, by omega⟩) (hr := rfl) ..).trans
      (gate_blk m c t _ l R (by show R.val = t.val * 512 + (480 + e.val); omega))

/-- At a sequence's first block, the scratch holds what the convolution reads. -/
theorem rows0_padded (c : Dev nD) (t : Fin cfg0.N) (h0 : t.val % 8 = 0) (q : Fin 512) (l : Fin 1024) (R : Fin 8192)
    (hR : R.val = t.val * 512 + q.val) (i : Nat) (hi : i < 31) :
    rows0 (iblk m c 0 t) (iblk m c 1 t) (iblk m c 2 t) (q.val + 2 + i) l = padded (chan m c l) R i := by
  unfold rows0 padded
  by_cases h : 32 ≤ q.val + 2 + i
  · rw [dif_pos (by omega), dif_pos (by omega)]
    exact gate_blk m c t _ l _ (by show R.val + i - 30 = t.val * 512 + (q.val + 2 + i - 32); omega)
  · rw [dif_neg (by omega), dif_neg (by omega)]

/-- And at a later one. -/
theorem rows1_padded (c : Dev nD) (t : Fin cfg0.N) (h0 : ¬t.val % 8 = 0) (q : Fin 512) (l : Fin 1024) (R : Fin 8192)
    (hR : R.val = t.val * 512 + q.val) (i : Nat) (hi : i < 31) :
    rows1 (iblk m c 0 t) (iblk m c 1 t) (iblk m c 2 t) (outsAt0 m c (t.val - 1) (Nat.lt_of_le_of_lt (Nat.sub_le _ _) t.isLt)).2.2
      (q.val + 2 + i) l = padded (chan m c l) R i := by
  unfold rows1 padded
  by_cases h : 32 ≤ q.val + 2 + i
  · rw [dif_pos (by omega), dif_pos (by omega)]
    exact gate_blk m c t _ l _ (by show R.val + i - 30 = t.val * 512 + (q.val + 2 + i - 32); omega)
  · rw [dif_neg (by omega), dif_pos (by omega), dif_pos (by omega)]
    exact carried m c ⟨t.val - 1, Nat.lt_of_le_of_lt (Nat.sub_le _ _) t.isLt⟩ _ (by show q.val + 2 + i < 32; omega) l _
      (by show R.val + i - 30 = (t.val - 1) * 512 + 480 + (q.val + 2 + i); omega)

/-- A block's result is the call's, once its scratch holds what the convolution reads. -/
theorem blk_eq (c : Dev nD) (t : Fin cfg0.N) (Y : Nat → Fin 1024 → EReal) (q : Fin 512) (l : Fin 1024) (R : Fin 8192)
    (hY : ∀ (l : Fin 1024) (i : Nat), i < 31 → Y (q.val + 2 + i) l = padded (chan m c l) R i) :
    blk (iblk m c 3 t) (iblk m c 4 t) (iblk m c 5 t) (iblk m c 6 t) (iblk m c 7 t) Y q l = G8 m c (ix2 R l) :=
  post_congr (fun l => conv_congr (hY l) (fun k => iblk3 m c t k l) (iblk4 m c t l)) (iblk5 m c t) (iblk6 m c t) (iblk7 m c t) l

/-- What point `t` writes back to the first result is block `t` of `G8`. -/
theorem flushed8_eq (c : Dev nD) (t : Fin cfg0.N) :
    (dats m 0 c).flushed 8 t = (win0_8.blk t).view.read (Elt Ideal) (G8 m c) := by
  funext y
  have h := idx_facts t
  obtain ⟨q, l, rfl⟩ : ∃ (q : Fin 512) (l : Fin 1024), y = ix2 q l := ⟨y 0, y 1, eq_ix2 y⟩
  obtain ⟨R, hR⟩ : ∃ R : Fin 8192, R.val = t.val * 512 + q.val := ⟨⟨t.val * 512 + q.val, by omega⟩, rfl⟩
  have e : (win0_8.rect t).emb (ix2 q l) = (ix2 R l : S8192x1024.Idx) := funext fun a => Fin.ext (by
    refine (win0_8.rect_emb_val t (ix2 q l) a).trans ?_
    match a with
    | ⟨0, _⟩ => show win0_8.index t 0 * 512 + q.val = R.val; omega
    | ⟨1, _⟩ => show win0_8.index t 1 * 1024 + l.val = l.val; omega)
  show _ = G8 m c ((win0_8.rect t).emb (ix2 q l))
  rw [e]
  by_cases h0 : t.val % 8 = 0
  · rw [Value.flushed8_A m c t h0]
    exact (outA_yc (q := q) (l := l) ..).trans (blk_eq m c t _ q l R fun l => rows0_padded m c t h0 q l R hR)
  · rw [Value.flushed8_B m c t h0]
    exact (outB_yc (q := q) (l := l) ..).trans (blk_eq m c t _ q l R fun l => rows1_padded m c t h0 q l R hR)

/-- What point `t` writes back to the second result is block `t` of `G9`. -/
theorem flushed9_eq (c : Dev nD) (t : Fin cfg0.N) :
    (dats m 0 c).flushed 9 t = (win0_9.blk t).view.read (Elt Ideal) (G9 m c) := by
  funext y
  have h := idx_facts t
  obtain ⟨q, l, rfl⟩ : ∃ (q : Fin 512) (l : Fin 1024), y = ix2 q l := ⟨y 0, y 1, eq_ix2 y⟩
  obtain ⟨R, hR⟩ : ∃ R : Fin 8192, R.val = t.val * 512 + q.val := ⟨⟨t.val * 512 + q.val, by omega⟩, rfl⟩
  have e : (win0_9.rect t).emb (ix2 q l) = (ix2 R l : S8192x1024.Idx) := funext fun a => Fin.ext (by
    refine (win0_9.rect_emb_val t (ix2 q l) a).trans ?_
    match a with
    | ⟨0, _⟩ => show win0_9.index t 0 * 512 + q.val = R.val; omega
    | ⟨1, _⟩ => show win0_9.index t 1 * 1024 + l.val = l.val; omega)
  show _ = G9 m c ((win0_9.rect t).emb (ix2 q l))
  rw [e]
  have hs : scanRow (fun k => iblk m c 0 t (ix2 q k)) (fun k => iblk m c 1 t (ix2 0 k)) (fun k j => iblk m c 2 t (ix2 k j)) l
      = G9 m c (ix2 R l) := scanRow_congr (fun k => iblk0 m c t q k R hR) (iblk1 m c t) (iblk2 m c t) l
  by_cases h0 : t.val % 8 = 0
  · rw [Value.flushed9_A m c t h0]
    exact (outA_u (q := q) (l := l) ..).trans hs
  · rw [Value.flushed9_B m c t h0]
    exact (outB_u (q := q) (l := l) ..).trans hs

/-- The sixteen blocks of rows cover the result. -/
theorem cover8 (i : S8192x1024.Idx) : ∃ t : Fin cfg0.N, (cfg0.win 8).flush t = true ∧ i ∈ ((cfg0.win 8).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  have h := idx_facts t
  refine ⟨t, flush0_8 t, ?_⟩
  show i ∈ ((View.whole main_v1_0).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512; omega
  | ⟨1, _⟩ => show win0_8.index t 1 * 1024 ≤ (i 1 : Nat) ∧ (i 1 : Nat) < win0_8.index t 1 * 1024 + 1024; omega

/-- The array after the run. -/
theorem final8 (c : Dev nD) : (dats m 0 c).arrAt 8 cfg0.N = G8 m c :=
  (dats m 0 c).arrAt_eq_of_cover 8 (G8 m c) (fun t _ => flushed8_eq m c t) cover8

/-- The sixteen blocks of rows cover the result. -/
theorem cover9 (i : S8192x1024.Idx) : ∃ t : Fin cfg0.N, (cfg0.win 9).flush t = true ∧ i ∈ ((cfg0.win 9).blk t).view.set := by
  have h0 : (i 0 : Nat) < 8192 := (i 0).isLt
  have h1 : (i 1 : Nat) < 1024 := (i 1).isLt
  have hN : cfg0.N = 16 := N_0
  obtain ⟨t, ht⟩ : ∃ t : Fin cfg0.N, t.val = (i 0 : Nat) / 512 := ⟨⟨(i 0 : Nat) / 512, by omega⟩, rfl⟩
  have h := idx_facts t
  refine ⟨t, flush0_9 t, ?_⟩
  show i ∈ ((View.whole main_v1_1).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512; omega
  | ⟨1, _⟩ => show win0_9.index t 1 * 1024 ≤ (i 1 : Nat) ∧ (i 1 : Nat) < win0_9.index t 1 * 1024 + 1024; omega

/-- The array after the run. -/
theorem final9 (c : Dev nD) : (dats m 0 c).arrAt 9 cfg0.N = G9 m c :=
  (dats m 0 c).arrAt_eq_of_cover 9 (G9 m c) (fun t _ => flushed9_eq m c t) cover9

end Kernel

/-- The claim: from the same arguments the kernel and the reference end with the same two arrays. -/
theorem algebraic : Cert.algebraic_MixInIdeal_MixInRefIdeal := by
  intro m ρ m' ρ' _ hagree
  refine ⟨fun c => G8 m c, fun c => G9 m c, ?_, ?_⟩
  · exact (θ_run Cert.MixInIdeal.defs _ _).mono (fun _ h c => ⟨(h c).1.trans (final8 m c), (h c).2.1.trans (final9 m c), (h c).2.2⟩)
      (Cert.MixInIdeal.Value.run_blocks (F := Ideal) m ρ)
  · refine (θ_run Cert.MixInRefIdeal.defs _ _).mono (fun _ h c => ⟨(h c).1.trans ?_, (h c).2.1.trans ?_, (h c).2.2⟩)
      (Cert.MixInRefIdeal.Value.run (F := Ideal) m' ρ')
    · refine (Cert.MixInRefIdeal.Read.val_main_v288_eq (F := Ideal) _).trans ?_
      obtain ⟨h0, h1, h2, h3, h4, h5, h6, h7⟩ := hagree c
      change Cert.MixInRefIdeal.Read.val_main_v288 (F := Ideal) (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2)) (m' ((c.tc : Thread Cert.MixInRefIdeal.nD Cert.MixInRefIdeal.τ).loc Cert.MixInRefIdeal.main_arg3)) (m' ((c.tc : Thread Cert.MixInRefIdeal.nD Cert.MixInRefIdeal.τ).loc Cert.MixInRefIdeal.main_arg4)) (m' ((c.tc : Thread Cert.MixInRefIdeal.nD Cert.MixInRefIdeal.τ).loc Cert.MixInRefIdeal.main_arg5)) (m' ((c.tc : Thread Cert.MixInRefIdeal.nD Cert.MixInRefIdeal.τ).loc Cert.MixInRefIdeal.main_arg6)) (m' ((c.tc : Thread Cert.MixInRefIdeal.nD Cert.MixInRefIdeal.τ).loc Cert.MixInRefIdeal.main_arg7)) = _
      rw [h0, h1, h2, h3, h4, h5, h6, h7]
      funext i
      obtain ⟨r, l, rfl⟩ : ∃ (r : Fin 8192) (l : Fin 1024), i = ix2 r l := ⟨i 0, i 1, eq_ix2 i⟩
      exact ref_yc_apply _ _ _ _ _ _ _ _ r l
    · refine (Cert.MixInRefIdeal.Read.val_main_v289_eq (F := Ideal) _).trans ?_
      obtain ⟨h0, h1, h2, -⟩ := hagree c
      change Cert.MixInRefIdeal.Read.val_main_v289 (F := Ideal) (m' ((c.tc : Thread Cert.MixInRefIdeal.nD Cert.MixInRefIdeal.τ).loc Cert.MixInRefIdeal.main_arg0)) (m' ((c.tc : Thread Cert.MixInRefIdeal.nD Cert.MixInRefIdeal.τ).loc Cert.MixInRefIdeal.main_arg1)) (m' ((c.tc : Thread Cert.MixInRefIdeal.nD Cert.MixInRefIdeal.τ).loc Cert.MixInRefIdeal.main_arg2)) = _
      rw [h0, h1, h2]
      funext i
      obtain ⟨r, l, rfl⟩ : ∃ (r : Fin 8192) (l : Fin 1024), i = ix2 r l := ⟨i 0, i 1, eq_ix2 i⟩
      exact ref_u_apply _ _ _ r l

/-- The reference runs, leaves its arguments unchanged and has no semaphores. -/
theorem frame_ref : Cert.quiescent_MixInRefIdeal := fun m ρ _ =>
  (θ_run Cert.MixInRefIdeal.defs _ _).mono (fun r h => ⟨fun c => (h c).2.2, sem_eq_zero_of_no_sems (by decide) r.2⟩)
    (Cert.MixInRefIdeal.Value.run (F := Ideal) m ρ)

end Cert.MixInProof

end
-- ==== Proof.RouteRow.lean ====
/-
  The experts' router, one token: its normal form, its query, and the scores of a head's two halves of the query against
  the keys of that half.
-/
module

public import proofs.«01_k».proof.Proof.Rows

@[expose] public section

noncomputable section

namespace Cert.RouteProof

open Idealize.ShloMosaic Cert.Rows

variable (x g : Fin 2048 → EReal) (w : Fin 2048 → Fin 1024 → EReal)

/-- Entry `k` of the token's normal form. -/
def norm (k : Fin 2048) : EReal := rms (f32 1157627904#32) x g k

/-- Entry `j` of the token's query. -/
def query (j : Fin 1024) : EReal := vecMat (norm x g) w j

/-- The score of one key against the 64 entries of the query from `o` on. -/
def score (o : Nat) (ho : o + 64 ≤ 1024) (key : Fin 64 → EReal) : EReal :=
  ∑ k : Fin 64, key k * query x g w ⟨o + k.val, by omega⟩

variable {x g w}

theorem norm_congr {x' g' : Fin 2048 → EReal} (hx : ∀ k, x k = x' k) (hg : ∀ k, g k = g' k) (k : Fin 2048) :
    norm x g k = norm x' g' k := by
  rw [show x = x' from funext hx, show g = g' from funext hg]

theorem score_congr {x' g' : Fin 2048 → EReal} {w' : Fin 2048 → Fin 1024 → EReal} {key key' : Fin 64 → EReal} (hx : ∀ k, x k = x' k)
    (hg : ∀ k, g k = g' k) (hw : ∀ k j, w k j = w' k j) (hk : ∀ k, key k = key' k) (o : Nat) (ho : o + 64 ≤ 1024) :
    score x g w o ho key = score x' g' w' o ho key' := by
  rw [show x = x' from funext hx, show g = g' from funext hg, show w = w' from funext fun k => funext (hw k),
    show key = key' from funext hk]

end Cert.RouteProof

end
-- ==== Proof.RouteVal.lean ====
/-
  The router's kernel, one block of 256 tokens: its three claimed results, entry by entry. A head stores the scores of
  each half of its query as one piece; the sixteen pieces are one family (`piece`).
-/
module

public import proofs.«01_k».proof.Proof.RouteRow
public import proofs.«01_k».proof.Proof.Gen.RouteIdeal.Frame

@[expose] public section

set_option maxRecDepth 16384

noncomputable section

namespace Cert.RouteProof

open Idealize.ShloMosaic Idealize.ShloMosaic.TcCoe Idealize.SL.Sem Cert.Rows
open Cert.RouteIdeal Cert.RouteIdeal.Gen

section Pieces

variable {F : FTy → Type} [FloatOps F]

theorem inb_key (h : Nat) (hh : h < 8) : ∀ a, (![h, 0, 0] : Fin 3 → Nat) a + S1x128x64.size a ≤ S8x128x64.size a := by
  intro a; fin_cases a
  · show h + 1 ≤ 8; omega
  · show 0 + 128 ≤ 128; omega
  · show 0 + 64 ≤ 64; omega

theorem inb_out (h : Nat) (hh : h < 8) : ∀ a, (![h, 0, 0] : Fin 3 → Nat) a + S1x128x256.size a ≤ S8x128x256.size a := by
  intro a; fin_cases a
  · show h + 1 ≤ 8; omega
  · show 0 + 128 ≤ 128; omega
  · show 0 + 256 ≤ 256; omega

theorem slices_at (o : Nat) (ho : o + 64 ≤ 1024) : S1024x256.Slices ![o, 0] S64x256 := by
  refine ⟨rfl, fun a => ?_⟩
  fin_cases a
  · show o + 64 ≤ 1024; omega
  · show 0 + 256 ≤ 256; omega

/-- The scores of all keys of one head's half, for the block's tokens: the keys times 64 rows of the queries. -/
def scores (q : FVec F S1024x256 .f32) (K : Vec F S1x128x64 .bf16) (o : Nat) (ho : o + 64 ≤ 1024) : FVec F S1x128x256 .f32 :=
  shapeCast S1x128x256 (matmul dot_S128x64_S64x256_S128x256_1_0_0_1_n_n none (shapeCast S128x64 K shapeCasts_S1x128x64_S128x64)
    (truncf .bf16 (extractStridedSlice S64x256 ![o, 0] q (slices_at o ho)) bitsLt_bf16_f32) (constant S128x256 .f32 0x00000000#32))
    shapeCasts_S128x256_S1x128x256

/-- The store of head `h`'s scores; `half` is 0 for the query's first halves, 64 for the second. -/
abbrev piece (q : FVec F S1024x256 .f32) (K : Vec F S8x128x64 .bf16) (half : Nat) (hf : half ≤ 64) (h : Nat) (hh : h < 8) :
    View.Piece (Elt F) S8x128x256 .f32 :=
  ⟨Rect.unit (s := S8x128x256) ![h, 0, 0] S1x128x256.size (inb_out h hh),
    scores q (View.ld K (Rect.unit (s := S8x128x64) ![h, 0, 0] S1x128x64.size (inb_key h hh))) (h * 128 + half) (by omega)⟩

abbrev pieces (q : FVec F S1024x256 .f32) (K : Vec F S8x128x64 .bf16) (half : Nat) (hf : half ≤ 64) :
    List (View.Piece (Elt F) S8x128x256 .f32) :=
  [piece q K half hf 7 (by omega), piece q K half hf 6 (by omega), piece q K half hf 5 (by omega), piece q K half hf 4 (by omega),
    piece q K half hf 3 (by omega), piece q K half hf 2 (by omega), piece q K half hf 1 (by omega), piece q K half hf 0 (by omega)]

variable (x0 : Vec F S256x2048 .f32) (x1 : Vec F S1x2048 .f32) (x2 : Vec F S1024x2048 .bf16) (x3 x4 : Vec F S8x128x64 .bf16)

theorem out5_eq : out0_5 x0 x1 x2 x3 x4 = k0_pay3 x0 x1 := by
  unfold out0_5
  rw [View.canon_unit_zero hz, View.ld_unit_zero hz, View.ld_unit_zero hz]

theorem out6_eq : out0_6 x0 x1 x2 x3 x4 = View.canon (pieces (k0_pay4 x0 x1 x2) x3 0 (by omega)) := by
  have h : out0_6 x0 x1 x2 x3 x4
      = View.canon (pieces (k0_pay4 (View.ld x0 r0_0) (View.ld x1 r0_1) (View.ld x2 r0_3)) x3 0 (by omega)) := by
    unfold_out out0_6
    rfl
  rw [h, View.ld_unit_zero hz, View.ld_unit_zero hz, View.ld_unit_zero hz]

theorem out7_eq : out0_7 x0 x1 x2 x3 x4 = View.canon (pieces (k0_pay4 x0 x1 x2) x4 64 (by omega)) := by
  have h : out0_7 x0 x1 x2 x3 x4
      = View.canon (pieces (k0_pay4 (View.ld x0 r0_0) (View.ld x1 r0_1) (View.ld x2 r0_3)) x4 64 (by omega)) := by
    unfold_out out0_7
    rfl
  rw [h, View.ld_unit_zero hz, View.ld_unit_zero hz, View.ld_unit_zero hz]

end Pieces

/-! ## The entries -/

section Entries

variable (x : Vec Ideal S256x2048 .f32) (g : Vec Ideal S1x2048 .f32) (w : Vec Ideal S1024x2048 .bf16)

theorem norm_apply (k : Fin 2048) (r : Fin 256) :
    k0_pay3 (F := Ideal) x g (ix2 k r) = norm (fun k => x (ix2 r k)) (fun k => g (ix2 0 k)) k := by
  unfold k0_pay3 norm rms
  pointwise []
  done

theorem query_apply (j : Fin 1024) (r : Fin 256) :
    k0_pay4 (F := Ideal) x g w (ix2 j r) = query (fun k => x (ix2 r k)) (fun k => g (ix2 0 k)) (fun k j => w (ix2 j k)) j := by
  unfold k0_pay4 query vecMat
  simp only [← norm_apply x g]
  generalize k0_pay3 (F := Ideal) x g = y
  simp only [mul_comm (y _)]
  pointwise [dot_S1024x2048_S2048x256_S1024x256_1_0_0_1_n_n]
  done

theorem scores_apply (q : FVec Ideal S1024x256 .f32) (K : Vec Ideal S1x128x64 .bf16) (o : Nat) (ho : o + 64 ≤ 1024) (n : Fin 128)
    (r : Fin 256) : scores q K o ho (ix3 0 n r) = ∑ k : Fin 64, K (ix3 0 n k) * q (ix2 ⟨o + k.val, by omega⟩ r) := by
  unfold scores
  pointwise [dot_S128x64_S64x256_S128x256_1_0_0_1_n_n]
  done

theorem key_row (K : Vec Ideal S8x128x64 .bf16) (h : Nat) (hh : h < 8) (n : Fin 128) (k : Fin 64) :
    View.ld K (Rect.unit (s := S8x128x64) ![h, 0, 0] S1x128x64.size (inb_key h hh)) (ix3 0 n k) = K (ix3 ⟨h, hh⟩ n k) := by
  pointwise []
  done

/-- The block of scores. -/
def scoreBlk (K : Vec Ideal S8x128x64 .bf16) (half : Nat) (hf : half ≤ 64) (y : S8x128x256.Idx) : EReal :=
  score (fun k => x (ix2 (y 2) k)) (fun k => g (ix2 0 k)) (fun k j => w (ix2 j k)) ((y 0).val * 128 + half)
    (by have : (y 0).val < 8 := (y 0).isLt; omega) fun k => K (ix3 (y 0) (y 1) k)

theorem piece_apply (K : Vec Ideal S8x128x64 .bf16) (half : Nat) (hf : half ≤ 64) (h : Nat) (hh : h < 8)
    (y : S1x128x256.Idx) : (piece (k0_pay4 (F := Ideal) x g w) K half hf h hh).2 y
      = scoreBlk x g w K half hf ((piece (k0_pay4 (F := Ideal) x g w) K half hf h hh).1.emb y) := by
  obtain ⟨n, r, rfl⟩ : ∃ (n : Fin 128) (r : Fin 256), y = ix3 0 n r :=
    ⟨y 1, y 2, (eq_ix3 y).trans (congrArg (fun a : Fin 1 => (ix3 a (y 1) (y 2) : S1x128x256.Idx))
      (Fin.ext (by have : (y 0).val < 1 := (y 0).isLt; show (y 0).val = 0; omega)))⟩
  have e : (Rect.unit (s := S8x128x256) ![h, 0, 0] S1x128x256.size (inb_out h hh)).emb (ix3 0 n r) = (ix3 ⟨h, hh⟩ n r : S8x128x256.Idx) :=
    funext fun a => Fin.ext (by
      match a with
      | ⟨0, _⟩ => show h + 1 * 0 = h; omega
      | ⟨1, _⟩ => show 0 + 1 * n.val = n.val; omega
      | ⟨2, _⟩ => show 0 + 1 * r.val = r.val; omega)
  show scores (k0_pay4 (F := Ideal) x g w) (View.ld K (Rect.unit (s := S8x128x64) ![h, 0, 0] S1x128x64.size (inb_key h hh)))
    (h * 128 + half) (by omega) (ix3 0 n r) = scoreBlk x g w K half hf ((Rect.unit (s := S8x128x256) ![h, 0, 0] S1x128x256.size (inb_out h hh)).emb (ix3 0 n r))
  rw [e, scores_apply, scoreBlk, score]
  refine Finset.sum_congr (M := EReal) rfl fun k _ => ?_
  rw [key_row, query_apply]
  rfl

theorem pieces_apply (K : Vec Ideal S8x128x64 .bf16) (half : Nat) (hf : half ≤ 64) (y : S8x128x256.Idx) :
    View.canon (pieces (k0_pay4 (F := Ideal) x g w) K half hf) y = scoreBlk x g w K half hf y := by
  refine View.canon_apply_of_pieces (Val := Elt Ideal) (S := S8x128x256) (e := .f32) (scoreBlk x g w K half hf) _ ?_ y (cover0_6 _ _ _ _ _ _ _ _ y)
  intro p hp
  simp only [List.mem_cons, List.not_mem_nil, or_false] at hp
  rcases hp with rfl | rfl | rfl | rfl | rfl | rfl | rfl | rfl <;> exact piece_apply x g w K half hf _ _

end Entries

end Cert.RouteProof

end
-- ==== Proof.RouteRef.lean ====
/-
  What the router's reference computes, entry by entry: the normal form, transposed, and the two arrays of scores.
-/
module

public import proofs.«01_k».proof.Proof.RouteRow
public import proofs.«01_k».proof.Proof.Gen.RouteRefIdeal.Read

@[expose] public section

set_option maxRecDepth 16384

noncomputable section

namespace Cert.RouteProof

open Idealize.ShloMosaic Idealize.ShloMosaic.TcCoe Cert.Rows
open Cert.RouteRefIdeal Cert.RouteRefIdeal.Read

variable (x : FVec Ideal S8192x2048 .f32) (g : FVec Ideal S1x2048 .f32) (w : FVec Ideal S2048x1024 .f32) (k1 k2 : FVec Ideal S8x128x64 .bf16)

theorem ref_norm_apply (T : Fin 8192) (k : Fin 2048) :
    val_main_v11 (F := Ideal) x g (ix2 T k) = norm (fun k => x (ix2 T k)) (fun k => g (ix2 0 k)) k := by
  unfold val_main_v11 val_main_v10 val_main_v9 val_main_v8 val_main_v7 val_main_v6 val_main_v5 val_main_v4
    val_main_v3 val_main_v2 val_main_v1 val_main_v0 val_main_cst val_main_cst_0 val_main_cst_1 norm
  pointwise []
  rfl

theorem ref_xt_apply (T : Fin 8192) (k : Fin 2048) :
    val_main_v25 (F := Ideal) x g (ix2 k T) = norm (fun k => x (ix2 T k)) (fun k => g (ix2 0 k)) k := by
  rw [← ref_norm_apply]
  unfold val_main_v25 val_main_v24
  pointwise []

theorem ref_query_apply (T : Fin 8192) (j : Fin 1024) :
    val_main_v12 (F := Ideal) x g w (ix2 T j)
      = query (fun k => x (ix2 T k)) (fun k => g (ix2 0 k)) (fun k j => w (ix2 k j)) j := by
  unfold query vecMat
  simp only [← ref_norm_apply x g T]
  unfold val_main_v12
  pointwise [dot_S8192x2048_S2048x1024_S8192x1024_1_0_0_1_n_n]

/-- The scores of the query's first halves. -/
theorem ref_s1_apply (h : Fin 8) (n : Fin 128) (T : Fin 8192) :
    val_main_v26 (F := Ideal) x g w k1 (ix3 h n T)
      = score (fun k => x (ix2 T k)) (fun k => g (ix2 0 k)) (fun k j => w (ix2 k j)) (h.val * 128) (by omega) fun k => k1 (ix3 h n k) := by
  unfold score
  simp only [← ref_query_apply x g w T]
  unfold val_main_v26 val_main_v18 val_main_v17 val_main_v16 val_main_v15 val_main_v14 val_main_v13
  pointwise [dot_S8x128x64_S8192x8x64_S8x128x8192_2_2_1_0_0_1]
  done

/-- The scores of the query's second halves. -/
theorem ref_s2_apply (h : Fin 8) (n : Fin 128) (T : Fin 8192) :
    val_main_v27 (F := Ideal) x g w k2 (ix3 h n T)
      = score (fun k => x (ix2 T k)) (fun k => g (ix2 0 k)) (fun k j => w (ix2 k j)) (h.val * 128 + 64) (by omega) fun k => k2 (ix3 h n k) := by
  unfold score
  simp only [← ref_query_apply x g w T]
  unfold val_main_v27 val_main_v23 val_main_v22 val_main_v21 val_main_v20 val_main_v19 val_main_v13
  pointwise [dot_S8x128x64_S8192x8x64_S8x128x8192_2_2_1_0_0_1]
  done

end Cert.RouteProof

end
-- ==== Proof.Route.lean ====
/-
  The router of the experts: the kernel's three claimed results — the transposed normal form of the tokens, the scores of
  the first halves of the queries, those of the second — and the reference's, entry by entry.
-/
module

public import proofs.«01_k».proof.Defs
public import proofs.«01_k».proof.Proof.RouteVal
public import proofs.«01_k».proof.Proof.RouteRef
public import proofs.«01_k».proof.Proof.Gen.RouteIdeal.Value
public import proofs.«01_k».proof.Proof.Gen.RouteRefIdeal.Run
public import Idealize.ShloMosaic.Lib.Quiescent

@[expose] public section

noncomputable section

namespace Cert.RouteProof

open Idealize.ShloMosaic Idealize.ShloMosaic.TcCoe Idealize.SL.Sem Cert.Rows
open Idealize.ShloMosaic.Pipeline (Dat)

section Kernel

open Cert.RouteIdeal Cert.RouteIdeal.Gen

variable (m : (ℓ : Loc nD τ sig) → Buf (Elt Ideal) ℓ) (ρ : Dev nD → PrngReg)

/-! ## The results, as functions of the arguments -/

/-- Token `T`'s row of the argument. -/
abbrev tok (c : Dev nD) (T : Fin 8192) : Fin 2048 → EReal := fun k => m ((c : Thread nD τ).loc main_arg0) (ix2 T k)

/-- The scales of the normal form. -/
abbrev scl (c : Dev nD) : Fin 2048 → EReal := fun k => m ((c : Thread nD τ).loc main_arg1) (ix2 0 k)

/-- The weights of the queries. -/
abbrev wq (c : Dev nD) : Fin 2048 → Fin 1024 → EReal := fun k j => m ((c : Thread nD τ).loc main_arg2) (ix2 k j)

/-- The normal form of the tokens, transposed. -/
abbrev G5 (c : Dev nD) : Buf (Elt Ideal) ((c : Thread nD τ).loc main_v2_0) := fun i : S2048x8192.Idx =>
  norm (tok m c (i 1)) (scl m c) (i 0)

/-- The scores of the queries' first halves. -/
abbrev G6 (c : Dev nD) : Buf (Elt Ideal) ((c : Thread nD τ).loc main_v2_1) := fun i : S8x128x8192.Idx =>
  score (tok m c (i 2)) (scl m c) (wq m c) ((i 0).val * 128) (by have : (i 0).val < 8 := (i 0).isLt; omega)
    fun k => m ((c : Thread nD τ).loc main_arg3) (ix3 (i 0) (i 1) k)

/-- And of their second halves. -/
abbrev G7 (c : Dev nD) : Buf (Elt Ideal) ((c : Thread nD τ).loc main_v2_2) := fun i : S8x128x8192.Idx =>
  score (tok m c (i 2)) (scl m c) (wq m c) ((i 0).val * 128 + 64) (by have : (i 0).val < 8 := (i 0).isLt; omega)
    fun k => m ((c : Thread nD τ).loc main_arg4) (ix3 (i 0) (i 1) k)

/-! ## The blocks -/

/-- Where each window's block lies at a grid point: the tokens move with the point, the weights and the keys not at all. -/
theorem idx_facts : ∀ t : Fin grid0.N, t.val < 32 ∧ (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = t.val)
    ∧ (win0_6.index t 0 = 0 ∧ win0_6.index t 1 = 0 ∧ win0_6.index t 2 = t.val)
    ∧ (win0_7.index t 0 = 0 ∧ win0_7.index t 1 = 0 ∧ win0_7.index t 2 = t.val) := by decide +kernel

/-- The weights as the kernel reads them: the argument's, transposed; the cast is the identity here. -/
theorem V_w (c : Dev nD) (j : Fin 1024) (k : Fin 2048) :
    V m c main_v1 (ix2 j k) = m ((c : Thread nD τ).loc main_arg2) (ix2 k j) := by
  unfold V hostOps0
  after_results_simp
  generalize m ((c : Thread nD τ).loc main_arg2) = w
  pointwise []
  done

theorem iblk0 (c : Dev nD) (t : Fin cfg0.N) (r : Fin 256) (k : Fin 2048) (T : Fin 8192) (hT : T.val = t.val * 256 + r.val) :
    iblk m c 0 t (ix2 r k) = tok m c T k := by
  have h := idx_facts t
  show V m c main_arg0 ((win0_0.rect t).emb (ix2 r k)) = _
  rw [V_main_arg0]
  refine congrArg (m ((c : Thread nD τ).loc main_arg0)) (funext fun a => Fin.ext ?_)
  refine (win0_0.rect_emb_val t (ix2 r k) a).trans ?_
  match a with
  | ⟨0, _⟩ => show win0_0.index t 0 * 256 + r.val = T.val; omega
  | ⟨1, _⟩ => show win0_0.index t 1 * 2048 + k.val = k.val; omega

theorem iblk1 (c : Dev nD) (t : Fin cfg0.N) (k : Fin 2048) : iblk m c 1 t (ix2 0 k) = scl m c k := by
  have h := idx_facts t
  show V m c main_arg1 ((win0_1.rect t).emb (ix2 0 k)) = _
  rw [V_main_arg1]
  refine congrArg (m ((c : Thread nD τ).loc main_arg1)) (funext fun a => Fin.ext ?_)
  refine (win0_1.rect_emb_val t (ix2 0 k) a).trans ?_
  match a with
  | ⟨0, _⟩ => show win0_1.index t 0 * 1 + 0 = 0; omega
  | ⟨1, _⟩ => show win0_1.index t 1 * 2048 + k.val = k.val; omega

theorem iblk2 (c : Dev nD) (t : Fin cfg0.N) (k : Fin 2048) (j : Fin 1024) : iblk m c 2 t (ix2 j k) = wq m c k j := by
  have h := idx_facts t
  show V m c main_v1 ((win0_2.rect t).emb (ix2 j k)) = _
  refine (congrArg (V m c main_v1) (funext fun a => Fin.ext ?_)).trans (V_w m c j k)
  refine (win0_2.rect_emb_val t (ix2 j k) a).trans ?_
  match a with
  | ⟨0, _⟩ => show win0_2.index t 0 * 1024 + j.val = j.val; omega
  | ⟨1, _⟩ => show win0_2.index t 1 * 2048 + k.val = k.val; omega

theorem iblk3 (c : Dev nD) (t : Fin cfg0.N) (h : Fin 8) (n : Fin 128) (k : Fin 64) :
    iblk m c 3 t (ix3 h n k) = m ((c : Thread nD τ).loc main_arg3) (ix3 h n k) := by
  have hi := idx_facts t
  show V m c main_arg3 ((win0_3.rect t).emb (ix3 h n k)) = _
  rw [V_main_arg3]
  refine congrArg (m ((c : Thread nD τ).loc main_arg3)) (funext fun a => Fin.ext ?_)
  refine (win0_3.rect_emb_val t (ix3 h n k) a).trans ?_
  match a with
  | ⟨0, _⟩ => show win0_3.index t 0 * 8 + h.val = h.val; omega
  | ⟨1, _⟩ => show win0_3.index t 1 * 128 + n.val = n.val; omega
  | ⟨2, _⟩ => show win0_3.index t 2 * 64 + k.val = k.val; omega

theorem iblk4 (c : Dev nD) (t : Fin cfg0.N) (h : Fin 8) (n : Fin 128) (k : Fin 64) :
    iblk m c 4 t (ix3 h n k) = m ((c : Thread nD τ).loc main_arg4) (ix3 h n k) := by
  have hi := idx_facts t
  show V m c main_arg4 ((win0_4.rect t).emb (ix3 h n k)) = _
  rw [V_main_arg4]
  refine congrArg (m ((c : Thread nD τ).loc main_arg4)) (funext fun a => Fin.ext ?_)
  refine (win0_4.rect_emb_val t (ix3 h n k) a).trans ?_
  match a with
  | ⟨0, _⟩ => show win0_4.index t 0 * 8 + h.val = h.val; omega
  | ⟨1, _⟩ => show win0_4.index t 1 * 128 + n.val = n.val; omega
  | ⟨2, _⟩ => show win0_4.index t 2 * 64 + k.val = k.val; omega

/-! ## What a point writes back -/

theorem flushed5_eq (c : Dev nD) (t : Fin cfg0.N) :
    (dats m 0 c).flushed 5 t = (win0_5.blk t).view.read (Elt Ideal) (G5 m c) := by
  rw [Value.flushed5, out5_eq]
  funext y
  have h := idx_facts t
  obtain ⟨k, r, rfl⟩ : ∃ (k : Fin 2048) (r : Fin 256), y = ix2 k r := ⟨y 0, y 1, eq_ix2 y⟩
  obtain ⟨T, hT⟩ : ∃ T : Fin 8192, T.val = t.val * 256 + r.val := ⟨⟨t.val * 256 + r.val, by omega⟩, rfl⟩
  have e : (win0_5.rect t).emb (ix2 k r) = (ix2 k T : S2048x8192.Idx) := funext fun a => Fin.ext (by
    refine (win0_5.rect_emb_val t (ix2 k r) a).trans ?_
    match a with
    | ⟨0, _⟩ => show win0_5.index t 0 * 2048 + k.val = k.val; omega
    | ⟨1, _⟩ => show win0_5.index t 1 * 256 + r.val = T.val; omega)
  show k0_pay3 (F := Ideal) (iblk m c 0 t) (iblk m c 1 t) (ix2 k r) = G5 m c ((win0_5.rect t).emb (ix2 k r))
  rw [e, norm_apply]
  exact norm_congr (fun k => iblk0 m c t r k T hT) (iblk1 m c t) k

theorem flushed6_eq (c : Dev nD) (t : Fin cfg0.N) :
    (dats m 0 c).flushed 6 t = (win0_6.blk t).view.read (Elt Ideal) (G6 m c) := by
  rw [Value.flushed6, out6_eq]
  funext y
  have hi := idx_facts t
  obtain ⟨h, n, r, rfl⟩ : ∃ (h : Fin 8) (n : Fin 128) (r : Fin 256), y = ix3 h n r := ⟨y 0, y 1, y 2, eq_ix3 y⟩
  obtain ⟨T, hT⟩ : ∃ T : Fin 8192, T.val = t.val * 256 + r.val := ⟨⟨t.val * 256 + r.val, by omega⟩, rfl⟩
  have e : (win0_6.rect t).emb (ix3 h n r) = (ix3 h n T : S8x128x8192.Idx) := funext fun a => Fin.ext (by
    refine (win0_6.rect_emb_val t (ix3 h n r) a).trans ?_
    match a with
    | ⟨0, _⟩ => show win0_6.index t 0 * 8 + h.val = h.val; omega
    | ⟨1, _⟩ => show win0_6.index t 1 * 128 + n.val = n.val; omega
    | ⟨2, _⟩ => show win0_6.index t 2 * 256 + r.val = T.val; omega)
  show View.canon (pieces (k0_pay4 (F := Ideal) (iblk m c 0 t) (iblk m c 1 t) (iblk m c 2 t)) (iblk m c 3 t) 0 (by omega)) (ix3 h n r)
    = G6 m c ((win0_6.rect t).emb (ix3 h n r))
  rw [e, pieces_apply]
  exact score_congr (fun k => iblk0 m c t r k T hT) (iblk1 m c t) (iblk2 m c t) (iblk3 m c t h n) _ _

theorem flushed7_eq (c : Dev nD) (t : Fin cfg0.N) :
    (dats m 0 c).flushed 7 t = (win0_7.blk t).view.read (Elt Ideal) (G7 m c) := by
  rw [Value.flushed7, out7_eq]
  funext y
  have hi := idx_facts t
  obtain ⟨h, n, r, rfl⟩ : ∃ (h : Fin 8) (n : Fin 128) (r : Fin 256), y = ix3 h n r := ⟨y 0, y 1, y 2, eq_ix3 y⟩
  obtain ⟨T, hT⟩ : ∃ T : Fin 8192, T.val = t.val * 256 + r.val := ⟨⟨t.val * 256 + r.val, by omega⟩, rfl⟩
  have e : (win0_7.rect t).emb (ix3 h n r) = (ix3 h n T : S8x128x8192.Idx) := funext fun a => Fin.ext (by
    refine (win0_7.rect_emb_val t (ix3 h n r) a).trans ?_
    match a with
    | ⟨0, _⟩ => show win0_7.index t 0 * 8 + h.val = h.val; omega
    | ⟨1, _⟩ => show win0_7.index t 1 * 128 + n.val = n.val; omega
    | ⟨2, _⟩ => show win0_7.index t 2 * 256 + r.val = T.val; omega)
  show View.canon (pieces (k0_pay4 (F := Ideal) (iblk m c 0 t) (iblk m c 1 t) (iblk m c 2 t)) (iblk m c 4 t) 64 (by omega)) (ix3 h n r)
    = G7 m c ((win0_7.rect t).emb (ix3 h n r))
  rw [e, pieces_apply]
  exact score_congr (fun k => iblk0 m c t r k T hT) (iblk1 m c t) (iblk2 m c t) (iblk4 m c t h n) _ _

/-! ## The arrays after the run -/

/-- The grid point of token `T`. -/
theorem point (T : Nat) (hT : T < 8192) : ∃ t : Fin cfg0.N, t.val = T / 256 := by
  have hN : cfg0.N = 32 := N_0
  exact ⟨⟨T / 256, by omega⟩, rfl⟩

theorem cover5 (i : S2048x8192.Idx) : ∃ t : Fin cfg0.N, (cfg0.win 5).flush t = true ∧ i ∈ ((cfg0.win 5).blk t).view.set := by
  have h0 : (i 0 : Nat) < 2048 := (i 0).isLt
  have h1 : (i 1 : Nat) < 8192 := (i 1).isLt
  obtain ⟨t, ht⟩ := point (i 1) h1
  have h := idx_facts t
  refine ⟨t, flush0_5 t, ?_⟩
  show i ∈ ((View.whole main_v2_0).slice (win0_5.rect t)).set
  rw [View.set_slice_whole, Rect.mem_set_unit]
  intro a
  match a with
  | ⟨0, _⟩ => show win0_5.index t 0 * 2048 ≤ (i 0 : Nat) ∧ (i 0 : Nat) < win0_5.index t 0 * 2048 + 2048; omega
  | ⟨1, _⟩ => show win0_5.index t 1 * 256 ≤ (i 1 : Nat) ∧ (i 1 : Nat) < win0_5.index t 1 * 256 + 256; omega

theorem cover6 (i : S8x128x8192.Idx) : ∃ t : Fin cfg0.N, (cfg0.win 6).flush t = true ∧ i ∈ ((cfg0.win 6).blk t).view.set := by
  have h0 : (i 0 : Nat) < 8 := (i 0).isLt
  have h1 : (i 1 : Nat) < 128 := (i 1).isLt
  have h2 : (i 2 : Nat) < 8192 := (i 2).isLt
  obtain ⟨t, ht⟩ := point (i 2) h2
  have h := idx_facts t
  refine ⟨t, flush0_6 t, ?_⟩
  show i ∈ ((View.whole main_v2_1).slice (win0_6.rect t)).set
  rw [View.set_slice_whole, Rect.mem_set_unit]
  intro a
  match a with
  | ⟨0, _⟩ => show win0_6.index t 0 * 8 ≤ (i 0 : Nat) ∧ (i 0 : Nat) < win0_6.index t 0 * 8 + 8; omega
  | ⟨1, _⟩ => show win0_6.index t 1 * 128 ≤ (i 1 : Nat) ∧ (i 1 : Nat) < win0_6.index t 1 * 128 + 128; omega
  | ⟨2, _⟩ => show win0_6.index t 2 * 256 ≤ (i 2 : Nat) ∧ (i 2 : Nat) < win0_6.index t 2 * 256 + 256; omega

theorem cover7 (i : S8x128x8192.Idx) : ∃ t : Fin cfg0.N, (cfg0.win 7).flush t = true ∧ i ∈ ((cfg0.win 7).blk t).view.set := by
  have h0 : (i 0 : Nat) < 8 := (i 0).isLt
  have h1 : (i 1 : Nat) < 128 := (i 1).isLt
  have h2 : (i 2 : Nat) < 8192 := (i 2).isLt
  obtain ⟨t, ht⟩ := point (i 2) h2
  have h := idx_facts t
  refine ⟨t, flush0_7 t, ?_⟩
  show i ∈ ((View.whole main_v2_2).slice (win0_7.rect t)).set
  rw [View.set_slice_whole, Rect.mem_set_unit]
  intro a
  match a with
  | ⟨0, _⟩ => show win0_7.index t 0 * 8 ≤ (i 0 : Nat) ∧ (i 0 : Nat) < win0_7.index t 0 * 8 + 8; omega
  | ⟨1, _⟩ => show win0_7.index t 1 * 128 ≤ (i 1 : Nat) ∧ (i 1 : Nat) < win0_7.index t 1 * 128 + 128; omega
  | ⟨2, _⟩ => show win0_7.index t 2 * 256 ≤ (i 2 : Nat) ∧ (i 2 : Nat) < win0_7.index t 2 * 256 + 256; omega

theorem final5 (c : Dev nD) : (dats m 0 c).arrAt 5 cfg0.N = G5 m c :=
  (dats m 0 c).arrAt_eq_of_cover 5 (G5 m c) (fun t _ => flushed5_eq m c t) cover5

theorem final6 (c : Dev nD) : (dats m 0 c).arrAt 6 cfg0.N = G6 m c :=
  (dats m 0 c).arrAt_eq_of_cover 6 (G6 m c) (fun t _ => flushed6_eq m c t) cover6

theorem final7 (c : Dev nD) : (dats m 0 c).arrAt 7 cfg0.N = G7 m c :=
  (dats m 0 c).arrAt_eq_of_cover 7 (G7 m c) (fun t _ => flushed7_eq m c t) cover7

end Kernel

/-- The claim: from the same arguments the kernel and the reference end with the same three arrays. -/
theorem algebraic : Cert.algebraic_RouteIdeal_RouteRefIdeal := by
  intro m ρ m' ρ' _ hagree
  refine ⟨fun c => G5 m c, fun c => G6 m c, fun c => G7 m c, ?_, ?_⟩
  · exact (θ_run Cert.RouteIdeal.defs _ _).mono
      (fun _ h c => ⟨(h c).1.trans (final5 m c), (h c).2.1.trans (final6 m c), (h c).2.2.1.trans (final7 m c), (h c).2.2.2.2⟩)
      (Cert.RouteIdeal.Value.run_blocks (F := Ideal) m ρ)
  · refine (θ_run Cert.RouteRefIdeal.defs _ _).mono
      (fun _ h c => ⟨(h c).1.trans ?_, (h c).2.1.trans ?_, (h c).2.2.1.trans ?_, (h c).2.2.2⟩)
      (Cert.RouteRefIdeal.Value.run (F := Ideal) m' ρ')
    all_goals obtain ⟨h0, h1, h2, h3, h4⟩ := hagree c
    · refine (Cert.RouteRefIdeal.Read.val_main_v25_eq (F := Ideal) _ _).trans ?_
      rw [h0, h1]
      funext i
      obtain ⟨k, T, rfl⟩ : ∃ (k : Fin 2048) (T : Fin 8192), i = ix2 k T := ⟨i 0, i 1, eq_ix2 i⟩
      exact ref_xt_apply _ _ T k
    · refine (Cert.RouteRefIdeal.Read.val_main_v26_eq (F := Ideal) _ _ _ _).trans ?_
      rw [h0, h1, h2, h3]
      funext i
      obtain ⟨h, n, T, rfl⟩ : ∃ (h : Fin 8) (n : Fin 128) (T : Fin 8192), i = ix3 h n T := ⟨i 0, i 1, i 2, eq_ix3 i⟩
      exact ref_s1_apply _ _ _ _ h n T
    · refine (Cert.RouteRefIdeal.Read.val_main_v27_eq (F := Ideal) _ _ _ _).trans ?_
      rw [h0, h1, h2, h4]
      funext i
      obtain ⟨h, n, T, rfl⟩ : ∃ (h : Fin 8) (n : Fin 128) (T : Fin 8192), i = ix3 h n T := ⟨i 0, i 1, i 2, eq_ix3 i⟩
      exact ref_s2_apply _ _ _ _ h n T

/-- The reference runs, leaves its arguments unchanged and has no semaphores. -/
theorem frame_ref : Cert.quiescent_RouteRefIdeal := fun m ρ _ =>
  (θ_run Cert.RouteRefIdeal.defs _ _).mono (fun r h => ⟨fun c => (h c).2.2.2, sem_eq_zero_of_no_sems (by decide) r.2⟩)
    (Cert.RouteRefIdeal.Value.run (F := Ideal) m ρ)

end Cert.RouteProof

end
-- ==== Proof.PeerBlk.lean ====
/-
  The experts' call, one grid point: the body's stores as lists. The body weighs 1024 experts by 512 tokens in 32 tiles
  of 128 by 128, each the same expression over another window; here that expression is written once, and the stores the
  run found are shown to be its 32 instances.
-/
module

public import proofs.«01_k».proof.Proof.Gen.PeerIdeal.Value

@[expose] public section

set_option maxRecDepth 65536

noncomputable section

namespace Cert.PeerProof

open Idealize.ShloMosaic Idealize.ShloMosaic.TcCoe Idealize.SL.Sem
open Cert.PeerIdeal Cert.PeerIdeal.Gen

variable {F : FTy → Type} [FloatOps F]

/-! ## Windows within their arrays -/

theorem inb_row (k l t : Nat) (hk : k < 8) (hl : l < 8) (ht : t < 4) :
    ∀ a, (![k, l, 128 * t] : Fin 3 → Nat) a + S1x1x128.size a ≤ S8x8x512.size a := by
  intro a; fin_cases a
  · show k + 1 ≤ 8; omega
  · show l + 1 ≤ 8; omega
  · show 128 * t + 128 ≤ 512; omega

theorem inb_tab (k t : Nat) (hk : k < 8) (ht : t < 4) :
    ∀ a, (![k, 0, 128 * t] : Fin 3 → Nat) a + S1x128x128.size a ≤ S8x128x512.size a := by
  intro a; fin_cases a
  · show k + 1 ≤ 8; omega
  · show 0 + 128 ≤ 128; omega
  · show 128 * t + 128 ≤ 512; omega

theorem inb_st (k t : Nat) (hk : k < 8) (ht : t < 4) :
    ∀ a, (![k, 128 * t] : Fin 2 → Nat) a + S1x128.size a ≤ S32x512.size a := by
  intro a; fin_cases a
  · show k + 1 ≤ 32; omega
  · show 128 * t + 128 ≤ 512; omega

theorem inb_tile (l t : Nat) (hl : l < 8) (ht : t < 4) :
    ∀ a, (![128 * l, 128 * t] : Fin 2 → Nat) a + S128x128.size a ≤ S1024x512.size a := by
  intro a; fin_cases a
  · show 128 * l + 128 ≤ 1024; omega
  · show 128 * t + 128 ≤ 512; omega

theorem inb_e1 (k : Nat) (hk : k < 8) : ∀ a, (![k, 0, 0] : Fin 3 → Nat) a + S1x8x512.size a ≤ S8x8x512.size a := by
  intro a; fin_cases a
  · show k + 1 ≤ 8; omega
  · show 0 + 8 ≤ 8; omega
  · show 0 + 512 ≤ 512; omega

theorem inb_e2 (k : Nat) (hk : k < 8) : ∀ a, (![k, 0, 0] : Fin 3 → Nat) a + S1x128x512.size a ≤ S8x128x512.size a := by
  intro a; fin_cases a
  · show k + 1 ≤ 8; omega
  · show 0 + 128 ≤ 128; omega
  · show 0 + 512 ≤ 512; omega

theorem inb_str (k : Nat) (hk : k < 32) : ∀ a, (![k, 0] : Fin 2 → Nat) a + S1x512.size a ≤ S32x512.size a := by
  intro a; fin_cases a
  · show k + 1 ≤ 32; omega
  · show 0 + 512 ≤ 512; omega

/-! ## The weights of a tile -/

/-- A row of 128 entries of a tensor of 8 by 8 by 512, as one row of a matrix. -/
def rowOf (x : Vec F S8x8x512 .f32) (k l t : Nat) (hk : k < 8) (hl : l < 8) (ht : t < 4) : FVec F S128x128 .f32 :=
  broadcastTo S128x128 (shapeCast S1x128 (View.ld x (Rect.unit ![k, l, 128 * t] ![1, 1, 128] (inb_row k l t hk hl ht)))
    shapeCasts_S1x1x128_S1x128) broadcasts_S1x128_S128x128

/-- A table of 128 by 128 of a tensor of 8 by 128 by 512. -/
def tabOf (x : Vec F S8x128x512 .f32) (k t : Nat) (hk : k < 8) (ht : t < 4) : FVec F S128x128 .f32 :=
  shapeCast S128x128 (View.ld x (Rect.unit ![k, 0, 128 * t] ![1, 128, 128] (inb_tab k t hk ht))) shapeCasts_S1x128x128_S128x128

/-- The weights of tile `(l, t)` summed over the first `k` heads: the product of the two exponentials where the sum of
    the two scores reaches the head's threshold, and zero elsewhere. -/
def heads (s1 : Vec F S8x8x512 .f32) (s2 : Vec F S8x128x512 .f32) (st : Vec F S32x512 .f32) (e1 : Vec F S8x8x512 .f32)
    (e2 : Vec F S8x128x512 .f32) (l t : Nat) (hl : l < 8) (ht : t < 4) : (k : Nat) → k ≤ 8 → FVec F S128x128 .f32
  | 0, _ => broadcast S128x128 (Scalar.ofBits .f32 0x00000000#32)
  | k + 1, h => addf (heads s1 s2 st e1 e2 l t hl ht k (Nat.le_of_succ_le h))
      (select (cmpf .oge (addf (rowOf s1 k l t h hl ht) (tabOf s2 k t h ht))
          (broadcastTo S128x128 (View.ld st (Rect.unit ![k, 128 * t] ![1, 128] (inb_st k t h ht))) broadcasts_S1x128_S128x128))
        (mulf (rowOf e1 k l t h hl ht) (tabOf e2 k t h ht)) (broadcast S128x128 (Scalar.ofBits .f32 0x00000000#32)))

/-- The tangent in the gelu of an activation. -/
def tanhPart (a : Vec F S128x128 .f32) : FVec F S128x128 .f32 :=
  tanh (mulf (broadcast S128x128 (Scalar.ofBits .f32 0x3F4C422A#32))
    (addf a (mulf (broadcast S128x128 (Scalar.ofBits .f32 0x3D372713#32)) (mulf a (mulf a a)))))

/-- Tile `(l, t)` of the weighted activations. -/
def tileVal (s1 : Vec F S8x8x512 .f32) (s2 : Vec F S8x128x512 .f32) (st : Vec F S32x512 .f32) (e1 : Vec F S8x8x512 .f32)
    (e2 : Vec F S8x128x512 .f32) (z : Vec F S1024x512 .f32) (l t : Nat) (hl : l < 8) (ht : t < 4) : FVec F S128x128 .bf16 :=
  k0_pay1 (heads s1 s2 st e1 e2 l t hl ht 8 le_rfl) (View.ld z (Rect.unit ![128 * l, 128 * t] ![128, 128] (inb_tile l t hl ht)))
    (tanhPart (View.ld z (Rect.unit ![128 * l, 128 * t] ![128, 128] (inb_tile l t hl ht)))) (Scalar.ofBits .f32 0x3F800000#32)

/-- The store of tile `(l, t)`. -/
def tile (s1 : Vec F S8x8x512 .f32) (s2 : Vec F S8x128x512 .f32) (st : Vec F S32x512 .f32) (e1 : Vec F S8x8x512 .f32)
    (e2 : Vec F S8x128x512 .f32) (z : Vec F S1024x512 .f32) (l t : Nat) (hl : l < 8) (ht : t < 4) :
    View.Piece (Elt F) S1024x512 .bf16 :=
  ⟨Rect.unit ![128 * l, 128 * t] ![128, 128] (inb_tile l t hl ht), tileVal s1 s2 st e1 e2 z l t hl ht⟩

/-- The first `n` tiles' stores, the last first: four tiles to each 128 experts. -/
def tiles (s1 : Vec F S8x8x512 .f32) (s2 : Vec F S8x128x512 .f32) (st : Vec F S32x512 .f32) (e1 : Vec F S8x8x512 .f32)
    (e2 : Vec F S8x128x512 .f32) (z : Vec F S1024x512 .f32) : (n : Nat) → n ≤ 32 → List (View.Piece (Elt F) S1024x512 .bf16)
  | 0, _ => []
  | n + 1, h => tile s1 s2 st e1 e2 z (n / 4) (n % 4) (by omega) (by omega) :: tiles s1 s2 st e1 e2 z n (Nat.le_of_succ_le h)

/-! ## The exponentials -/

/-- The store of head `k`'s exponentials of the first scores. -/
def e1Piece (s1 : Vec F S8x8x512 .f32) (st : Vec F S32x512 .f32) (k : Nat) (hk : k < 8) : View.Piece (Elt F) S8x8x512 .f32 :=
  ⟨Rect.unit ![k, 0, 0] ![1, 8, 512] (inb_e1 k hk), k0_pay15 (View.ld s1 (Rect.unit ![k, 0, 0] ![1, 8, 512] (inb_e1 k hk)))
    (View.ld st (Rect.unit ![8 + k, 0] ![1, 512] (inb_str (8 + k) (by omega))))⟩

/-- The first `k` heads' stores of these, the last first. -/
def e1Pieces (s1 : Vec F S8x8x512 .f32) (st : Vec F S32x512 .f32) : (k : Nat) → k ≤ 8 → List (View.Piece (Elt F) S8x8x512 .f32)
  | 0, _ => []
  | k + 1, h => e1Piece s1 st k h :: e1Pieces s1 st k (Nat.le_of_succ_le h)

/-- The store of head `k`'s exponentials of the second scores, over the head's sum. -/
def e2Piece (s2 : Vec F S8x128x512 .f32) (st : Vec F S32x512 .f32) (k : Nat) (hk : k < 8) : View.Piece (Elt F) S8x128x512 .f32 :=
  ⟨Rect.unit ![k, 0, 0] ![1, 128, 512] (inb_e2 k hk), k0_pay6 (View.ld s2 (Rect.unit ![k, 0, 0] ![1, 128, 512] (inb_e2 k hk)))
    (View.ld st (Rect.unit ![16 + k, 0] ![1, 512] (inb_str (16 + k) (by omega))))
    (View.ld st (Rect.unit ![24 + k, 0] ![1, 512] (inb_str (24 + k) (by omega))))⟩

/-- The first `k` heads' stores of these, the last first. -/
def e2Pieces (s2 : Vec F S8x128x512 .f32) (st : Vec F S32x512 .f32) : (k : Nat) → k ≤ 8 → List (View.Piece (Elt F) S8x128x512 .f32)
  | 0, _ => []
  | k + 1, h => e2Piece s2 st k h :: e2Pieces s2 st k (Nat.le_of_succ_le h)

/-- The store of the experts' products with the tokens. -/
def zPiece (x : Vec F S2048x512 .bf16) (u : Vec F S1024x2048 .bf16) : View.Piece (Elt F) S1024x512 .f32 :=
  ⟨Rect.unit ![0, 0] ![1024, 512] inb_S1024x512_S1024x512_0_0, k0_pay24 u x⟩

/-! ## The stores of the run -/

section Run

variable (c : Dev nD) (i : grid0.Coords) (arg2 : Memref sig .tc .vmem S2048x512 .bf16) (harg2 : arg2.IsWhole)
  (arg3 : Memref sig .tc .vmem S1024x2048 .bf16) (harg3 : arg3.IsWhole) (arg4 : Memref sig .tc .vmem S1024x2048 .bf16)
  (harg4 : arg4.IsWhole) (arg5 : Memref sig .tc .vmem S8x8x512 .f32) (harg5 : arg5.IsWhole)
  (arg6 : Memref sig .tc .vmem S8x128x512 .f32) (harg6 : arg6.IsWhole) (arg7 : Memref sig .tc .vmem S32x512 .f32)
  (harg7 : arg7.IsWhole) (arg8 : Memref sig .tc .vmem S512x2048 .f32) (harg8 : arg8.IsWhole)
  (arg9 : Memref sig .tc .vmem S1x2048 .f32) (harg9 : arg9.IsWhole) (arg10 : Memref sig .tc .vmem S512x2048 .f32)
  (harg10 : arg10.IsWhole) (arg11 : Memref sig .tc .vmem S8x8x512 .f32) (harg11 : arg11.IsWhole)
  (arg12 : Memref sig .tc .vmem S8x128x512 .f32) (harg12 : arg12.IsWhole) (arg13 : Memref sig .tc .vmem S1024x512 .f32)
  (harg13 : arg13.IsWhole) (arg14 : Memref sig .tc .vmem S1024x512 .bf16) (harg14 : arg14.IsWhole)
  (x0 : Vec F S2048x512 .bf16) (x1 x2 : Vec F S1024x2048 .bf16) (x3 : Vec F S8x8x512 .f32) (x4 : Vec F S8x128x512 .f32)
  (x5 : Vec F S32x512 .f32) (x6 : Vec F S512x2048 .f32) (x7 : Vec F S1x2048 .f32) (xo8 : Vec F S512x2048 .f32)
  (xs1 : Vec F S8x128x512 .f32)

/-- What the point's body computes the tiles from: the exponentials of the first scores, as its stores leave them. -/
abbrev e1Read : Vec F S8x8x512 .f32 :=
  arg11.view.read (Elt F) (arg11.view.writes (Elt F) arg11.view.junk
    (e1Pieces (arg5.view.read (Elt F) (harg5.unread x3)) (arg7.view.read (Elt F) (harg7.unread x5)) 8 le_rfl))

/-- The products with the tokens, as the body's store leaves them. -/
abbrev zRead : Vec F S1024x512 .f32 :=
  arg13.view.read (Elt F) (arg13.view.writes (Elt F) arg13.view.junk
    [zPiece (View.ld (arg2.view.read (Elt F) (harg2.unread x0)) (Rect.unit ![0, 0] ![2048, 512] inb_S2048x512_S2048x512_0_0))
      (View.ld (arg3.view.read (Elt F) (harg3.unread x1)) (Rect.unit ![0, 0] ![1024, 2048] inb_S1024x2048_S1024x2048_0_0))])

/-- The weighted activations, as the 32 tiles' stores leave them, from the exponentials `e2` of the second scores. -/
abbrev wRead (e2 : Vec F S8x128x512 .f32) : Vec F S1024x512 .bf16 :=
  arg14.view.read (Elt F) (arg14.view.writes (Elt F) arg14.view.junk
    (tiles (arg5.view.read (Elt F) (harg5.unread x3)) (arg6.view.read (Elt F) (harg6.unread x4))
      (arg7.view.read (Elt F) (harg7.unread x5)) (e1Read arg5 harg5 arg7 harg7 arg11 x3 x5) e2
      (zRead arg2 harg2 arg3 harg3 arg13 x0 x1) 32 le_rfl))

/-- The exponentials of the second scores as a sweep's first point stores them. -/
abbrev e2Read : Vec F S8x128x512 .f32 :=
  arg12.view.read (Elt F) (arg12.view.writes (Elt F) arg12.view.junk
    (e2Pieces (arg6.view.read (Elt F) (harg6.unread x4)) (arg7.view.read (Elt F) (harg7.unread x5)) 8 le_rfl))

/-- The store that adds the weighted activations' product with the experts' values to `p`. -/
abbrev addPiece (p : Vec F S512x2048 .f32) (w : Vec F S1024x512 .bf16) (v : Vec F S1024x2048 .bf16) :
    View.Piece (Elt F) S512x2048 .f32 :=
  ⟨Rect.unit ![0, 0] ![512, 2048] inb_S512x2048_S512x2048_0_0,
    k0_pay2 (View.ld p (Rect.unit ![0, 0] ![512, 2048] inb_S512x2048_S512x2048_0_0))
      (View.ld w (Rect.unit ![0, 0] ![1024, 512] inb_S1024x512_S1024x512_0_0))
      (View.ld v (Rect.unit ![0, 0] ![1024, 2048] inb_S1024x2048_S1024x2048_0_0))⟩

/-- The store of zeros. -/
abbrev zeroPiece : View.Piece (Elt F) S512x2048 .f32 :=
  ⟨Rect.unit ![0, 0] ![512, 2048] inb_S512x2048_S512x2048_0_0, k0_pay4⟩

/-- The store of the residual plus `p` in normal form. -/
abbrev lastPiece (h p : Vec F S512x2048 .f32) (g : Vec F S1x2048 .f32) : View.Piece (Elt F) S512x2048 .f32 :=
  ⟨Rect.unit ![0, 0] ![512, 2048] inb_S512x2048_S512x2048_0_0,
    k0_pay3 (View.ld h (Rect.unit ![0, 0] ![512, 2048] inb_S512x2048_S512x2048_0_0))
      (View.ld p (Rect.unit ![0, 0] ![512, 2048] inb_S512x2048_S512x2048_0_0))
      (View.ld g (Rect.unit ![0, 0] ![1, 2048] inb_S1x2048_S1x2048_0_0))⟩

set_option maxHeartbeats 4000000 in
/-- At a sweep's first point: the stores of the exponentials of the second scores. -/
theorem runA_e2 (hc0 : cond0_0 i) (hc1 : ¬cond0_1 i) :
    (kernelRun0_A c i arg2 harg2 arg3 harg3 arg4 harg4 arg5 harg5 arg6 harg6 arg7 harg7 arg8 harg8 arg9 harg9 arg10
      harg10 arg11 harg11 arg12 harg12 arg13 harg13 arg14 harg14 hc0 hc1 x0 x1 x2 x3 x4 x5 x6 x7).2.1
      = e2Pieces (arg6.view.read (Elt F) (harg6.unread x4)) (arg7.view.read (Elt F) (harg7.unread x5)) 8 le_rfl := by
  unfold kernelRun0_A
  rfl

set_option maxHeartbeats 4000000 in
/-- At a sweep's first point: the stores of the result, zeros and then the point's sum. -/
theorem runA_out (hc0 : cond0_0 i) (hc1 : ¬cond0_1 i) :
    (kernelRun0_A c i arg2 harg2 arg3 harg3 arg4 harg4 arg5 harg5 arg6 harg6 arg7 harg7 arg8 harg8 arg9 harg9 arg10
      harg10 arg11 harg11 arg12 harg12 arg13 harg13 arg14 harg14 hc0 hc1 x0 x1 x2 x3 x4 x5 x6 x7).1
      = [addPiece (arg10.view.read (Elt F) (arg10.view.writes (Elt F) arg10.view.junk [zeroPiece]))
          (wRead arg2 harg2 arg3 harg3 arg5 harg5 arg6 harg6 arg7 harg7 arg11 arg13 arg14 x0 x1 x3 x4 x5
            (e2Read arg6 harg6 arg7 harg7 arg12 x4 x5)) (arg4.view.read (Elt F) (harg4.unread x2)), zeroPiece] := by
  unfold kernelRun0_A
  rfl

set_option maxHeartbeats 4000000 in
/-- At a point between: the store of the result, the point's sum added to what it held. -/
theorem runB_out (hc0 : ¬cond0_0 i) (hc1 : ¬cond0_1 i) :
    (kernelRun0_B c i arg2 harg2 arg3 harg3 arg4 harg4 arg5 harg5 arg6 harg6 arg7 harg7 arg8 harg8 arg9 harg9 arg10
      harg10 arg11 harg11 arg12 harg12 arg13 harg13 arg14 harg14 hc0 hc1 x0 x1 x2 x3 x4 x5 x6 x7 xo8 xs1).1
      = [addPiece (arg10.view.read (Elt F) (harg10.unread xo8))
          (wRead arg2 harg2 arg3 harg3 arg5 harg5 arg6 harg6 arg7 harg7 arg11 arg13 arg14 x0 x1 x3 x4 x5
            (arg12.view.read (Elt F) (harg12.unread xs1))) (arg4.view.read (Elt F) (harg4.unread x2))] := by
  unfold kernelRun0_B
  rfl

set_option maxHeartbeats 4000000 in
/-- At a sweep's last point: the same, and then the residual plus that in normal form. -/
theorem runC_out (hc0 : ¬cond0_0 i) (hc1 : cond0_1 i) :
    (kernelRun0_C c i arg2 harg2 arg3 harg3 arg4 harg4 arg5 harg5 arg6 harg6 arg7 harg7 arg8 harg8 arg9 harg9 arg10
      harg10 arg11 harg11 arg12 harg12 arg13 harg13 arg14 harg14 hc0 hc1 x0 x1 x2 x3 x4 x5 x6 x7 xo8 xs1).1
      = [lastPiece (arg8.view.read (Elt F) (harg8.unread x6))
          (arg10.view.read (Elt F) (arg10.view.writes (Elt F) arg10.view.junk
            [addPiece (arg10.view.read (Elt F) (harg10.unread xo8))
              (wRead arg2 harg2 arg3 harg3 arg5 harg5 arg6 harg6 arg7 harg7 arg11 arg13 arg14 x0 x1 x3 x4 x5
                (arg12.view.read (Elt F) (harg12.unread xs1))) (arg4.view.read (Elt F) (harg4.unread x2))]))
          (arg9.view.read (Elt F) (harg9.unread x7)),
         addPiece (arg10.view.read (Elt F) (harg10.unread xo8))
          (wRead arg2 harg2 arg3 harg3 arg5 harg5 arg6 harg6 arg7 harg7 arg11 arg13 arg14 x0 x1 x3 x4 x5
            (arg12.view.read (Elt F) (harg12.unread xs1))) (arg4.view.read (Elt F) (harg4.unread x2))] := by
  unfold kernelRun0_C
  rfl

end Run

end Cert.PeerProof

end
-- ==== Proof.PeerRow.lean ====
/-
  The experts' call for one token, in the arithmetic of the extended reals.
-/
module

public import proofs.«01_k».proof.Proof.Rows

@[expose] public section

noncomputable section

namespace Cert.PeerProof

open Idealize.ShloMosaic Cert.Rows

/-- The gelu, in its tangent form. -/
def gelu (y : EReal) : EReal :=
  y * (f32 1056964608#32 * (1 + Ideal.tanh (f32 1061962282#32 * (y + f32 1027024659#32 * (y * (y * y))))))

/-- One expert's weight as the kernel sums it: over the heads, the product of the two exponentials where the sum of the two scores reaches
    the head's threshold. -/
def weight (s1 s2 th e1 e2 : Fin 8 → EReal) : EReal := ∑ k, if th k ≤ s1 k + s2 k then e1 k * e2 k else 0

/-- The exponential takes sums to products, at the infinities too. -/
theorem exp_add (a b : EReal) : Ideal.exp (a + b) = Ideal.exp a * Ideal.exp b := by
  induction a using EReal.rec with
  | bot => rw [EReal.bot_add]; exact (zero_mul _).symm
  | top =>
    induction b using EReal.rec with
    | bot => rw [EReal.add_bot]; exact (mul_zero _).symm
    | top => exact EReal.top_mul_top.symm
    | coe y => exact (EReal.top_mul_of_pos (EReal.coe_pos.mpr (Real.exp_pos y))).symm
  | coe x =>
    induction b using EReal.rec with
    | bot => rw [EReal.add_bot]; exact (mul_zero _).symm
    | top => exact (EReal.mul_top_of_pos (EReal.coe_pos.mpr (Real.exp_pos x))).symm
    | coe y =>
      rw [← EReal.coe_add]
      show ((Real.exp (x + y) : ℝ) : EReal) = ((Real.exp x : ℝ) : EReal) * ((Real.exp y : ℝ) : EReal)
      rw [Real.exp_add, EReal.coe_mul]

/-- One expert's weight, as a softmax: over the heads whose threshold the sum of the two scores reaches, the exponential
    of that sum less the two largest scores, times the reciprocal sum. -/
def gate (s1 s2 th m1 m2 rz : Fin 8 → EReal) : EReal :=
  ∑ k, if th k ≤ s1 k + s2 k then Ideal.exp (s1 k + s2 k - m1 k - m2 k) * rz k else 0

/-- The kernel's two exponentials make that weight. -/
theorem weight_eq_gate (s1 s2 th m1 m2 rz : Fin 8 → EReal) :
    weight s1 s2 th (fun k => Ideal.exp (s1 k - m1 k)) (fun k => Ideal.exp (s2 k - m2 k) * rz k) = gate s1 s2 th m1 m2 rz := by
  unfold weight gate
  refine Finset.sum_congr rfl fun k _ => ?_
  have e : s1 k + s2 k - m1 k - m2 k = (s1 k - m1 k) + (s2 k - m2 k) := by
    rw [sub_eq_add_neg, sub_eq_add_neg, sub_eq_add_neg, sub_eq_add_neg, add_assoc, add_add_add_comm]
  rw [e, exp_add, mul_assoc]

/-- A weight depends on the entries of its arguments alone. -/
theorem weight_congr {s1 s1' s2 s2' th th' e1 e1' e2 e2' : Fin 8 → EReal} (h1 : ∀ k, s1 k = s1' k) (h2 : ∀ k, s2 k = s2' k)
    (h3 : ∀ k, th k = th' k) (h4 : ∀ k, e1 k = e1' k) (h5 : ∀ k, e2 k = e2' k) :
    weight s1 s2 th e1 e2 = weight s1' s2' th' e1' e2' := by
  rw [show s1 = s1' from funext h1, show s2 = s2' from funext h2, show th = th' from funext h3, show e1 = e1' from funext h4,
    show e2 = e2' from funext h5]

/-- The normal form depends on the entries of its row alone. -/
theorem rms_congr {n : Nat} (D : EReal) {x x' : Fin n → EReal} (g : Fin n → EReal) (h : ∀ k, x k = x' k) (k : Fin n) :
    rms D x g k = rms D x' g k := by
  rw [show x = x' from funext h]

/-- Expert `e`'s weighted activation at token `T`: the tokens `x` (one a column), the experts' input vectors `u`, the
    scores `s1`, `s2` of the two halves of an expert's number, and `st`, four rows a head: the thresholds, the two
    largest scores, the reciprocal sums. -/
def hidden (x : Fin 2048 → Fin 8192 → EReal) (u : Fin 16384 → Fin 2048 → EReal) (s1 s2 : Fin 8 → Fin 128 → Fin 8192 → EReal)
    (st : Fin 32 → Fin 8192 → EReal) (T : Fin 8192) (e : Fin 16384) : EReal :=
  gate (fun k => s1 k ⟨e.val / 128, by omega⟩ T) (fun k => s2 k ⟨e.val % 128, by omega⟩ T) (fun k => st ⟨k.val, by omega⟩ T)
    (fun k => st ⟨8 + k.val, by omega⟩ T) (fun k => st ⟨16 + k.val, by omega⟩ T) (fun k => st ⟨24 + k.val, by omega⟩ T)
  * gelu (∑ k, u e k * x k T)

/-- What the call computes: each token's residual plus its experts' output vectors, in normal form. -/
def peer (x : Fin 2048 → Fin 8192 → EReal) (u v : Fin 16384 → Fin 2048 → EReal) (s1 s2 : Fin 8 → Fin 128 → Fin 8192 → EReal)
    (st : Fin 32 → Fin 8192 → EReal) (h : Fin 8192 → Fin 2048 → EReal) (g : Fin 2048 → EReal) (T : Fin 8192) (l : Fin 2048) : EReal :=
  rms (f32 1157627904#32) (fun l => h T l + ∑ e, hidden x u s1 s2 st T e * v e l) g l

end Cert.PeerProof

end
-- ==== Proof.PeerVal.lean ====
/-
  The experts' call, one grid point: what its stores hold at an entry.
-/
module

public import proofs.«01_k».proof.Proof.PeerBlk
public import proofs.«01_k».proof.Proof.PeerRow
public import Idealize.ShloMosaic.Lib.WritesUnit

@[expose] public section

set_option maxRecDepth 16384

noncomputable section

namespace Cert.PeerProof

open Idealize.ShloMosaic Idealize.ShloMosaic.TcCoe Idealize.SL.Sem Cert.Rows
open Cert.PeerIdeal Cert.PeerIdeal.Gen

/-! ## The operations at an entry -/

theorem spread_apply (v : FVec Ideal S1x1x128 .f32) (n r : Fin 128) :
    broadcastTo S128x128 (shapeCast S1x128 v shapeCasts_S1x1x128_S1x128) broadcasts_S1x128_S128x128 (ix2 n r) = v (ix3 0 0 r) := by
  pointwise []
  done

theorem ld_row (x : Vec Ideal S8x8x512 .f32) (k l t : Nat) (hk : k < 8) (hl : l < 8) (ht : t < 4) (r : Fin 128) :
    View.ld x (Rect.unit ![k, l, 128 * t] ![1, 1, 128] (inb_row k l t hk hl ht)) (ix3 0 0 r)
      = x (ix3 ⟨k, hk⟩ ⟨l, hl⟩ ⟨128 * t + r.val, by omega⟩) := by
  show x ((Rect.unit (s := S8x8x512) ![k, l, 128 * t] ![1, 1, 128] (inb_row k l t hk hl ht)).emb (ix3 0 0 r)) = _
  refine congrArg x (funext fun a => Fin.ext ?_)
  match a with
  | ⟨0, _⟩ => show k + 1 * 0 = k; omega
  | ⟨1, _⟩ => show l + 1 * 0 = l; omega
  | ⟨2, _⟩ => show 128 * t + 1 * r.val = 128 * t + r.val; omega

theorem rowOf_apply (x : Vec Ideal S8x8x512 .f32) (k l t : Nat) (hk : k < 8) (hl : l < 8) (ht : t < 4) (n r : Fin 128) :
    rowOf x k l t hk hl ht (ix2 n r) = x (ix3 ⟨k, hk⟩ ⟨l, hl⟩ ⟨128 * t + r.val, by omega⟩) :=
  (spread_apply _ n r).trans (ld_row x k l t hk hl ht r)

theorem squeeze_apply (X : FVec Ideal S1x128x128 .f32) (n r : Fin 128) :
    shapeCast S128x128 X shapeCasts_S1x128x128_S128x128 (ix2 n r) = X (ix3 0 n r) := by
  pointwise []
  done

theorem tabOf_apply (x : Vec Ideal S8x128x512 .f32) (k t : Nat) (hk : k < 8) (ht : t < 4) (n r : Fin 128) :
    tabOf x k t hk ht (ix2 n r) = x (ix3 ⟨k, hk⟩ n ⟨128 * t + r.val, by omega⟩) := by
  refine (squeeze_apply _ n r).trans ?_
  show x ((Rect.unit (s := S8x128x512) ![k, 0, 128 * t] ![1, 128, 128] (inb_tab k t hk ht)).emb (ix3 0 n r)) = _
  refine congrArg x (funext fun a => Fin.ext ?_)
  match a with
  | ⟨0, _⟩ => show k + 1 * 0 = k; omega
  | ⟨1, _⟩ => show 0 + 1 * n.val = n.val; omega
  | ⟨2, _⟩ => show 128 * t + 1 * r.val = 128 * t + r.val; omega

theorem st_apply (x : Vec Ideal S32x512 .f32) (k t : Nat) (hk : k < 8) (ht : t < 4) (r : Fin 128) :
    View.ld x (Rect.unit ![k, 128 * t] ![1, 128] (inb_st k t hk ht)) (ix2 0 r) = x (ix2 ⟨k, by omega⟩ ⟨128 * t + r.val, by omega⟩) := by
  pointwise []
  done

theorem z_apply (x : Vec Ideal S1024x512 .f32) (l t : Nat) (hl : l < 8) (ht : t < 4) (n r : Fin 128) :
    View.ld x (Rect.unit ![128 * l, 128 * t] ![128, 128] (inb_tile l t hl ht)) (ix2 n r)
      = x (ix2 ⟨128 * l + n.val, by omega⟩ ⟨128 * t + r.val, by omega⟩) := by
  pointwise []
  done

theorem head_step (z a b c d : FVec Ideal S128x128 .f32) (v : FVec Ideal S1x128 .f32) (n r : Fin 128) :
    (addf z (select (cmpf .oge (addf a b) (broadcastTo S128x128 v broadcasts_S1x128_S128x128)) (mulf c d)
      (broadcast S128x128 (Scalar.ofBits .f32 0x00000000#32))) : FVec Ideal S128x128 .f32) (ix2 n r)
      = z (ix2 n r) + (if v (ix2 0 r) ≤ a (ix2 n r) + b (ix2 n r) then c (ix2 n r) * d (ix2 n r) else 0) := by
  pointwise []
  done

theorem gelu_apply (w a : Vec Ideal S128x128 .f32) (n r : Fin 128) :
    k0_pay1 (F := Ideal) w a (tanhPart a) (Scalar.ofBits .f32 0x3F800000#32) (ix2 n r) = w (ix2 n r) * gelu (a (ix2 n r)) := by
  unfold k0_pay1 tanhPart gelu
  pointwise []
  done

theorem e1_apply (s : Vec Ideal S1x8x512 .f32) (m : Vec Ideal S1x512 .f32) (l : Fin 8) (r : Fin 512) :
    k0_pay15 (F := Ideal) s m (ix3 0 l r) = Ideal.exp (s (ix3 0 l r) - m (ix2 0 r)) := by
  unfold k0_pay15
  pointwise []
  done

theorem e2_apply (s : Vec Ideal S1x128x512 .f32) (m z : Vec Ideal S1x512 .f32) (l : Fin 128) (r : Fin 512) :
    k0_pay6 (F := Ideal) s m z (ix3 0 l r) = Ideal.exp (s (ix3 0 l r) - m (ix2 0 r)) * z (ix2 0 r) := by
  unfold k0_pay6
  pointwise []
  done

theorem dot_apply (u : Vec Ideal S1024x2048 .bf16) (x : Vec Ideal S2048x512 .bf16) (e : Fin 1024) (r : Fin 512) :
    k0_pay24 (F := Ideal) u x (ix2 e r) = ∑ k, u (ix2 e k) * x (ix2 k r) := by
  unfold k0_pay24
  pointwise [dot_S1024x2048_S2048x512_S1024x512_1_0_0_1_n_n]
  done

theorem add_apply (p : Vec Ideal S512x2048 .f32) (w : Vec Ideal S1024x512 .bf16) (v : Vec Ideal S1024x2048 .bf16) (r : Fin 512)
    (l : Fin 2048) : k0_pay2 (F := Ideal) p w v (ix2 r l) = p (ix2 r l) + ∑ e, w (ix2 e r) * v (ix2 e l) := by
  unfold k0_pay2
  pointwise [dot_S1024x512_S1024x2048_S512x2048_0_0_1_1_n_n]
  done

theorem zero_apply (r : Fin 512) (l : Fin 2048) : k0_pay4 (F := Ideal) (ix2 r l) = 0 := by
  unfold k0_pay4
  pointwise []
  done

theorem last_apply (h p : Vec Ideal S512x2048 .f32) (g : Vec Ideal S1x2048 .f32) (r : Fin 512) (l : Fin 2048) :
    k0_pay3 (F := Ideal) h p g (ix2 r l)
      = rms (f32 1157627904#32) (fun k => h (ix2 r k) + p (ix2 r k)) (fun k => g (ix2 0 k)) l := by
  unfold k0_pay3 rms
  pointwise []
  done

theorem ld_s1 (x : Vec Ideal S8x8x512 .f32) (k : Nat) (hk : k < 8) (l : Fin 8) (r : Fin 512) :
    View.ld x (Rect.unit ![k, 0, 0] ![1, 8, 512] (inb_e1 k hk)) (ix3 0 l r) = x (ix3 ⟨k, hk⟩ l r) := by
  pointwise []
  done

theorem ld_s2 (x : Vec Ideal S8x128x512 .f32) (k : Nat) (hk : k < 8) (l : Fin 128) (r : Fin 512) :
    View.ld x (Rect.unit ![k, 0, 0] ![1, 128, 512] (inb_e2 k hk)) (ix3 0 l r) = x (ix3 ⟨k, hk⟩ l r) := by
  pointwise []
  done

theorem ld_st (x : Vec Ideal S32x512 .f32) (k : Nat) (hk : k < 32) (r : Fin 512) :
    View.ld x (Rect.unit ![k, 0] ![1, 512] (inb_str k hk)) (ix2 0 r) = x (ix2 ⟨k, hk⟩ r) := by
  pointwise []
  done

/-! ## The exponentials -/

section Exps

variable (s1 : Vec Ideal S8x8x512 .f32) (s2 : Vec Ideal S8x128x512 .f32) (st : Vec Ideal S32x512 .f32)

/-- The exponentials of the first scores, head by head. -/
abbrev e1Arr (i : S8x8x512.Idx) : EReal := Ideal.exp (s1 i - st (ix2 ⟨8 + (i 0).val, by have : (i 0).val < 8 := (i 0).isLt; omega⟩ (i 2)))

/-- The exponentials of the second scores, over the heads' sums. -/
abbrev e2Arr (i : S8x128x512.Idx) : EReal :=
  Ideal.exp (s2 i - st (ix2 ⟨16 + (i 0).val, by have : (i 0).val < 8 := (i 0).isLt; omega⟩ (i 2)))
    * st (ix2 ⟨24 + (i 0).val, by have : (i 0).val < 8 := (i 0).isLt; omega⟩ (i 2))

theorem e1Piece_apply (k : Nat) (hk : k < 8) (x : S1x8x512.Idx) :
    (e1Piece (F := Ideal) s1 st k hk).2 x = e1Arr s1 st ((e1Piece (F := Ideal) s1 st k hk).1.emb x) := by
  obtain ⟨l, r, rfl⟩ : ∃ (l : Fin 8) (r : Fin 512), x = ix3 0 l r :=
    ⟨x 1, x 2, (eq_ix3 x).trans (congrArg (fun a : Fin 1 => (ix3 a (x 1) (x 2) : S1x8x512.Idx))
      (Fin.ext (by have : (x 0).val < 1 := (x 0).isLt; show (x 0).val = 0; omega)))⟩
  have e : (e1Piece (F := Ideal) s1 st k hk).1.emb (ix3 0 l r) = (ix3 (⟨k, hk⟩ : Fin 8) l r : S8x8x512.Idx) :=
    funext fun a => Fin.ext (by
      match a with
      | ⟨0, _⟩ => show k + 1 * 0 = k; omega
      | ⟨1, _⟩ => show 0 + 1 * l.val = l.val; omega
      | ⟨2, _⟩ => show 0 + 1 * r.val = r.val; omega)
  rw [e]
  refine (e1_apply _ _ l r).trans ?_
  rw [ld_s1, ld_st]
  rfl

theorem e2Piece_apply (k : Nat) (hk : k < 8) (x : S1x128x512.Idx) :
    (e2Piece (F := Ideal) s2 st k hk).2 x = e2Arr s2 st ((e2Piece (F := Ideal) s2 st k hk).1.emb x) := by
  obtain ⟨l, r, rfl⟩ : ∃ (l : Fin 128) (r : Fin 512), x = ix3 0 l r :=
    ⟨x 1, x 2, (eq_ix3 x).trans (congrArg (fun a : Fin 1 => (ix3 a (x 1) (x 2) : S1x128x512.Idx))
      (Fin.ext (by have : (x 0).val < 1 := (x 0).isLt; show (x 0).val = 0; omega)))⟩
  have e : (e2Piece (F := Ideal) s2 st k hk).1.emb (ix3 0 l r) = (ix3 (⟨k, hk⟩ : Fin 8) l r : S8x128x512.Idx) :=
    funext fun a => Fin.ext (by
      match a with
      | ⟨0, _⟩ => show k + 1 * 0 = k; omega
      | ⟨1, _⟩ => show 0 + 1 * l.val = l.val; omega
      | ⟨2, _⟩ => show 0 + 1 * r.val = r.val; omega)
  rw [e]
  refine (e2_apply _ _ _ l r).trans ?_
  rw [ld_s2, ld_st, ld_st]
  rfl

theorem mem_e1Pieces (p : View.Piece (Elt Ideal) S8x8x512 .f32) : ∀ (n : Nat) (h : n ≤ 8),
    p ∈ e1Pieces (F := Ideal) s1 st n h ↔ ∃ (k : Nat) (hk : k < n), p = e1Piece s1 st k (by omega)
  | 0, _ => by simp [e1Pieces]
  | n + 1, h => by
    rw [e1Pieces, List.mem_cons, mem_e1Pieces p n]
    constructor
    · rintro (rfl | ⟨k, hk, rfl⟩)
      · exact ⟨n, by omega, rfl⟩
      · exact ⟨k, by omega, rfl⟩
    · rintro ⟨k, hk, rfl⟩
      by_cases e : k = n
      · subst e; exact Or.inl rfl
      · exact Or.inr ⟨k, by omega, rfl⟩

theorem mem_e2Pieces (p : View.Piece (Elt Ideal) S8x128x512 .f32) : ∀ (n : Nat) (h : n ≤ 8),
    p ∈ e2Pieces (F := Ideal) s2 st n h ↔ ∃ (k : Nat) (hk : k < n), p = e2Piece s2 st k (by omega)
  | 0, _ => by simp [e2Pieces]
  | n + 1, h => by
    rw [e2Pieces, List.mem_cons, mem_e2Pieces p n]
    constructor
    · rintro (rfl | ⟨k, hk, rfl⟩)
      · exact ⟨n, by omega, rfl⟩
      · exact ⟨k, by omega, rfl⟩
    · rintro ⟨k, hk, rfl⟩
      by_cases e : k = n
      · subst e; exact Or.inl rfl
      · exact Or.inr ⟨k, by omega, rfl⟩

variable {sig : RefSig} {κ : Kind} {sp : Space}

/-- What the eight stores of the first scores' exponentials leave. -/
theorem e1Pieces_apply (v : View sig κ sp S8x8x512 .f32) (f : v.ty.Contents (Elt Ideal)) (k : Fin 8) (l : Fin 8) (r : Fin 512) :
    v.read (Elt Ideal) (v.writes (Elt Ideal) f (e1Pieces (F := Ideal) s1 st 8 le_rfl)) (ix3 k l r) = e1Arr s1 st (ix3 k l r) := by
  refine View.read_writes_apply_of_pieces v f (e1Arr s1 st) _ (fun p hp x => ?_) (ix3 k l r) ?_
  · obtain ⟨k, hk, rfl⟩ := (mem_e1Pieces s1 st p 8 le_rfl).1 hp
    exact e1Piece_apply s1 st k hk x
  · refine ⟨_, (mem_e1Pieces s1 st _ 8 le_rfl).2 ⟨k.val, k.isLt, rfl⟩, ?_⟩
    show (ix3 k l r : S8x8x512.Idx) ∈ (Rect.unit ![k.val, 0, 0] ![1, 8, 512] (inb_e1 k.val k.isLt)).set
    rw [Rect.mem_set_unit]
    intro a
    match a with
    | ⟨0, _⟩ => show k.val ≤ k.val ∧ k.val < k.val + 1; omega
    | ⟨1, _⟩ => show 0 ≤ l.val ∧ l.val < 0 + 8; omega
    | ⟨2, _⟩ => show 0 ≤ r.val ∧ r.val < 0 + 512; omega

/-- What the eight stores of the second scores' exponentials leave. -/
theorem e2Pieces_apply (v : View sig κ sp S8x128x512 .f32) (f : v.ty.Contents (Elt Ideal)) (k : Fin 8) (l : Fin 128) (r : Fin 512) :
    v.read (Elt Ideal) (v.writes (Elt Ideal) f (e2Pieces (F := Ideal) s2 st 8 le_rfl)) (ix3 k l r) = e2Arr s2 st (ix3 k l r) := by
  refine View.read_writes_apply_of_pieces v f (e2Arr s2 st) _ (fun p hp x => ?_) (ix3 k l r) ?_
  · obtain ⟨k, hk, rfl⟩ := (mem_e2Pieces s2 st p 8 le_rfl).1 hp
    exact e2Piece_apply s2 st k hk x
  · refine ⟨_, (mem_e2Pieces s2 st _ 8 le_rfl).2 ⟨k.val, k.isLt, rfl⟩, ?_⟩
    show (ix3 k l r : S8x128x512.Idx) ∈ (Rect.unit ![k.val, 0, 0] ![1, 128, 512] (inb_e2 k.val k.isLt)).set
    rw [Rect.mem_set_unit]
    intro a
    match a with
    | ⟨0, _⟩ => show k.val ≤ k.val ∧ k.val < k.val + 1; omega
    | ⟨1, _⟩ => show 0 ≤ l.val ∧ l.val < 0 + 128; omega
    | ⟨2, _⟩ => show 0 ≤ r.val ∧ r.val < 0 + 512; omega

end Exps

/-! ## The tiles -/

section Tiles

variable (s1 : Vec Ideal S8x8x512 .f32) (s2 : Vec Ideal S8x128x512 .f32) (st : Vec Ideal S32x512 .f32)
  (e1 : Vec Ideal S8x8x512 .f32) (e2 : Vec Ideal S8x128x512 .f32) (z : Vec Ideal S1024x512 .f32)

/-- The weighted activation of expert `e` of the point's 1024, at token `r` of its 512. -/
def wAt (e : Fin 1024) (r : Fin 512) : EReal :=
  weight (fun k => s1 (ix3 k ⟨e.val / 128, by omega⟩ r)) (fun k => s2 (ix3 k ⟨e.val % 128, by omega⟩ r))
    (fun k => st (ix2 ⟨k.val, by omega⟩ r)) (fun k => e1 (ix3 k ⟨e.val / 128, by omega⟩ r))
    (fun k => e2 (ix3 k ⟨e.val % 128, by omega⟩ r)) * gelu (z (ix2 e r))

theorem heads_succ (l t : Nat) (hl : l < 8) (ht : t < 4) (k : Nat) (h : k + 1 ≤ 8) (n r : Fin 128) :
    heads s1 s2 st e1 e2 l t hl ht (k + 1) h (ix2 n r)
      = heads s1 s2 st e1 e2 l t hl ht k (Nat.le_of_succ_le h) (ix2 n r)
        + (if st (ix2 ⟨k, by omega⟩ ⟨128 * t + r.val, by omega⟩)
            ≤ s1 (ix3 ⟨k, by omega⟩ ⟨l, hl⟩ ⟨128 * t + r.val, by omega⟩) + s2 (ix3 ⟨k, by omega⟩ n ⟨128 * t + r.val, by omega⟩)
          then e1 (ix3 ⟨k, by omega⟩ ⟨l, hl⟩ ⟨128 * t + r.val, by omega⟩) * e2 (ix3 ⟨k, by omega⟩ n ⟨128 * t + r.val, by omega⟩)
          else 0) := by
  rw [heads]
  refine (head_step _ _ _ _ _ _ n r).trans ?_
  rw [rowOf_apply s1 k l t h hl ht, rowOf_apply e1 k l t h hl ht, tabOf_apply s2 k t h ht, tabOf_apply e2 k t h ht, st_apply st k t h ht]

theorem heads_zero (l t : Nat) (hl : l < 8) (ht : t < 4) (n r : Fin 128) :
    heads s1 s2 st e1 e2 l t hl ht 0 (Nat.zero_le 8) (ix2 n r) = 0 := by
  rw [heads]
  pointwise []

theorem heads_apply (l t : Nat) (hl : l < 8) (ht : t < 4) (n r : Fin 128) :
    heads s1 s2 st e1 e2 l t hl ht 8 le_rfl (ix2 n r)
      = weight (fun k => s1 (ix3 k ⟨l, hl⟩ ⟨128 * t + r.val, by omega⟩)) (fun k => s2 (ix3 k n ⟨128 * t + r.val, by omega⟩))
          (fun k => st (ix2 ⟨k.val, by omega⟩ ⟨128 * t + r.val, by omega⟩)) (fun k => e1 (ix3 k ⟨l, hl⟩ ⟨128 * t + r.val, by omega⟩))
          (fun k => e2 (ix3 k n ⟨128 * t + r.val, by omega⟩)) := by
  unfold weight
  rw [Fin.sum_univ_eight]
  iterate 8 rw [heads_succ]
  rw [heads_zero, zero_add]
  rfl

/-- The weighted activations as one array. -/
abbrev wArr (i : S1024x512.Idx) : EReal := wAt s1 s2 st e1 e2 z (i 0) (i 1)

theorem tile_apply (l t : Nat) (hl : l < 8) (ht : t < 4) (x : S128x128.Idx) :
    (tile (F := Ideal) s1 s2 st e1 e2 z l t hl ht).2 x
      = wArr s1 s2 st e1 e2 z ((tile (F := Ideal) s1 s2 st e1 e2 z l t hl ht).1.emb x) := by
  obtain ⟨n, r, rfl⟩ : ∃ (n r : Fin 128), x = ix2 n r := ⟨x 0, x 1, eq_ix2 x⟩
  have e : (tile (F := Ideal) s1 s2 st e1 e2 z l t hl ht).1.emb (ix2 n r)
      = (ix2 (⟨128 * l + n.val, by omega⟩ : Fin 1024) (⟨128 * t + r.val, by omega⟩ : Fin 512) : S1024x512.Idx) :=
    funext fun a => Fin.ext (by
      match a with
      | ⟨0, _⟩ => show 128 * l + 1 * n.val = 128 * l + n.val; omega
      | ⟨1, _⟩ => show 128 * t + 1 * r.val = 128 * t + r.val; omega)
  rw [e]
  refine (gelu_apply _ _ n r).trans ?_
  rw [heads_apply, z_apply z l t hl ht]
  have h1 : (⟨(128 * l + n.val) / 128, by omega⟩ : Fin 8) = ⟨l, hl⟩ := Fin.ext (by show (128 * l + n.val) / 128 = l; omega)
  have h2 : (⟨(128 * l + n.val) % 128, by omega⟩ : Fin 128) = n := Fin.ext (by show (128 * l + n.val) % 128 = n.val; omega)
  show _ = wAt s1 s2 st e1 e2 z ⟨128 * l + n.val, by omega⟩ ⟨128 * t + r.val, by omega⟩
  unfold wAt
  simp only [h1, h2]

theorem mem_tiles (p : View.Piece (Elt Ideal) S1024x512 .bf16) : ∀ (n : Nat) (h : n ≤ 32),
    p ∈ tiles (F := Ideal) s1 s2 st e1 e2 z n h
      ↔ ∃ (k : Nat) (hk : k < n), p = tile s1 s2 st e1 e2 z (k / 4) (k % 4) (by omega) (by omega)
  | 0, _ => by simp [tiles]
  | n + 1, h => by
    rw [tiles, List.mem_cons, mem_tiles p n]
    constructor
    · rintro (rfl | ⟨k, hk, rfl⟩)
      · exact ⟨n, by omega, rfl⟩
      · exact ⟨k, by omega, rfl⟩
    · rintro ⟨k, hk, rfl⟩
      by_cases e : k = n
      · subst e; exact Or.inl rfl
      · exact Or.inr ⟨k, by omega, rfl⟩

theorem mem_tile (l t : Nat) (hl : l < 8) (ht : t < 4) (e : Fin 1024) (r : Fin 512) (h1 : e.val / 128 = l) (h2 : r.val / 128 = t) :
    (ix2 e r : S1024x512.Idx) ∈ (tile (F := Ideal) s1 s2 st e1 e2 z l t hl ht).1.set := by
  have hr : (tile (F := Ideal) s1 s2 st e1 e2 z l t hl ht).1
      = Rect.unit ![128 * l, 128 * t] ![128, 128] (inb_tile l t hl ht) := rfl
  rw [hr, Rect.mem_set_unit]
  intro a
  match a with
  | ⟨0, _⟩ => show 128 * l ≤ e.val ∧ e.val < 128 * l + 128; omega
  | ⟨1, _⟩ => show 128 * t ≤ r.val ∧ r.val < 128 * t + 128; omega

/-- What the 32 stores leave. -/
theorem tiles_apply {sig : RefSig} {κ : Kind} {sp : Space} (v : View sig κ sp S1024x512 .bf16) (f : v.ty.Contents (Elt Ideal))
    (e : Fin 1024) (r : Fin 512) :
    v.read (Elt Ideal) (v.writes (Elt Ideal) f (tiles (F := Ideal) s1 s2 st e1 e2 z 32 le_rfl)) (ix2 e r)
      = wAt s1 s2 st e1 e2 z e r := by
  refine View.read_writes_apply_of_pieces v f (wArr s1 s2 st e1 e2 z) _ (fun p hp x => ?_) (ix2 e r) ?_
  · obtain ⟨k, hk, rfl⟩ := (mem_tiles s1 s2 st e1 e2 z p 32 le_rfl).1 hp
    exact tile_apply s1 s2 st e1 e2 z _ _ _ _ x
  · obtain ⟨j, hj, h1, h2⟩ : ∃ j : Nat, j < 32 ∧ j / 4 = e.val / 128 ∧ j % 4 = r.val / 128 :=
      ⟨4 * (e.val / 128) + r.val / 128, by omega, by omega, by omega⟩
    refine ⟨_, (mem_tiles s1 s2 st e1 e2 z _ 32 le_rfl).2 ⟨j, hj, rfl⟩, ?_⟩
    exact mem_tile s1 s2 st e1 e2 z (j / 4) (j % 4) _ _ e r h1.symm h2.symm

end Tiles

end Cert.PeerProof

end
-- ==== Proof.PeerOut.lean ====
/-
  The experts' call, one grid point: its three cases' results at an entry, from the point's blocks.
-/
module

public import proofs.«01_k».proof.Proof.PeerVal

@[expose] public section

set_option maxRecDepth 16384

noncomputable section

namespace Cert.PeerProof

open Idealize.ShloMosaic Idealize.ShloMosaic.TcCoe Idealize.SL.Sem Cert.Rows
open Cert.PeerIdeal Cert.PeerIdeal.Gen

/-! ## Whole blocks -/

theorem ld_o (X : Vec Ideal S512x2048 .f32) : View.ld X (Rect.unit ![0, 0] ![512, 2048] inb_S512x2048_S512x2048_0_0) = X :=
  View.ld_unit_zero hz _ X

theorem ld_g (X : Vec Ideal S1x2048 .f32) : View.ld X (Rect.unit ![0, 0] ![1, 2048] inb_S1x2048_S1x2048_0_0) = X :=
  View.ld_unit_zero hz _ X

theorem ld_w (X : Vec Ideal S1024x512 .bf16) : View.ld X (Rect.unit ![0, 0] ![1024, 512] inb_S1024x512_S1024x512_0_0) = X :=
  View.ld_unit_zero hz _ X

theorem ld_v (X : Vec Ideal S1024x2048 .bf16) : View.ld X (Rect.unit ![0, 0] ![1024, 2048] inb_S1024x2048_S1024x2048_0_0) = X :=
  View.ld_unit_zero hz _ X

theorem ld_x (X : Vec Ideal S2048x512 .bf16) : View.ld X (Rect.unit ![0, 0] ![2048, 512] inb_S2048x512_S2048x512_0_0) = X :=
  View.ld_unit_zero hz _ X

section Whole

variable {sig : RefSig} {κ : Kind} {sp : Space}

theorem read_out (v : View sig κ sp S512x2048 .f32) (f : v.ty.Contents (Elt Ideal)) (P : Vec Ideal S512x2048 .f32)
    (L : List (View.Piece (Elt Ideal) S512x2048 .f32)) (r : Fin 512) (l : Fin 2048) :
    v.read (Elt Ideal) (v.writes (Elt Ideal) f (⟨Rect.unit ![0, 0] ![512, 2048] inb_S512x2048_S512x2048_0_0, P⟩ :: L)) (ix2 r l)
      = P (ix2 r l) :=
  View.read_writes_cons_rows_of_mem v f (o := 0) _ _ L (ix2 r l) (ix2 r l) rfl (Nat.zero_add _).symm rfl

theorem read_z (v : View sig κ sp S1024x512 .f32) (f : v.ty.Contents (Elt Ideal)) (P : Vec Ideal S1024x512 .f32) (e : Fin 1024)
    (r : Fin 512) :
    v.read (Elt Ideal) (v.writes (Elt Ideal) f [⟨Rect.unit ![0, 0] ![1024, 512] inb_S1024x512_S1024x512_0_0, P⟩]) (ix2 e r)
      = P (ix2 e r) :=
  View.read_writes_cons_rows_of_mem v f (o := 0) _ _ [] (ix2 e r) (ix2 e r) rfl (Nat.zero_add _).symm rfl

end Whole

/-- The weighted activation of expert `e` of the point's 1024 at token `r` of its 512, from the point's blocks and the
    exponentials `e2` of the second scores. -/
def ptW (x0 : Vec Ideal S2048x512 .bf16) (x1 : Vec Ideal S1024x2048 .bf16) (x3 : Vec Ideal S8x8x512 .f32)
    (x4 : Vec Ideal S8x128x512 .f32) (x5 : Vec Ideal S32x512 .f32) (e2 : Vec Ideal S8x128x512 .f32) (e : Fin 1024) (r : Fin 512) :
    EReal :=
  weight (fun k => x3 (ix3 k ⟨e.val / 128, by omega⟩ r)) (fun k => x4 (ix3 k ⟨e.val % 128, by omega⟩ r))
    (fun k => x5 (ix2 ⟨k.val, by omega⟩ r))
    (fun k => Ideal.exp (x3 (ix3 k ⟨e.val / 128, by omega⟩ r) - x5 (ix2 ⟨8 + k.val, by omega⟩ r)))
    (fun k => e2 (ix3 k ⟨e.val % 128, by omega⟩ r)) * gelu (∑ k, x1 (ix2 e k) * x0 (ix2 k r))

section Out

variable (c : Dev nD) (i : grid0.Coords) (arg2 : Memref sig .tc .vmem S2048x512 .bf16) (harg2 : arg2.IsWhole)
  (arg3 : Memref sig .tc .vmem S1024x2048 .bf16) (harg3 : arg3.IsWhole) (arg4 : Memref sig .tc .vmem S1024x2048 .bf16)
  (harg4 : arg4.IsWhole) (arg5 : Memref sig .tc .vmem S8x8x512 .f32) (harg5 : arg5.IsWhole)
  (arg6 : Memref sig .tc .vmem S8x128x512 .f32) (harg6 : arg6.IsWhole) (arg7 : Memref sig .tc .vmem S32x512 .f32)
  (harg7 : arg7.IsWhole) (arg8 : Memref sig .tc .vmem S512x2048 .f32) (harg8 : arg8.IsWhole)
  (arg9 : Memref sig .tc .vmem S1x2048 .f32) (harg9 : arg9.IsWhole) (arg10 : Memref sig .tc .vmem S512x2048 .f32)
  (harg10 : arg10.IsWhole) (arg11 : Memref sig .tc .vmem S8x8x512 .f32) (harg11 : arg11.IsWhole)
  (arg12 : Memref sig .tc .vmem S8x128x512 .f32) (harg12 : arg12.IsWhole) (arg13 : Memref sig .tc .vmem S1024x512 .f32)
  (harg13 : arg13.IsWhole) (arg14 : Memref sig .tc .vmem S1024x512 .bf16) (harg14 : arg14.IsWhole)
  (x0 : Vec Ideal S2048x512 .bf16) (x1 x2 : Vec Ideal S1024x2048 .bf16) (x3 : Vec Ideal S8x8x512 .f32)
  (x4 : Vec Ideal S8x128x512 .f32) (x5 : Vec Ideal S32x512 .f32) (x6 : Vec Ideal S512x2048 .f32) (x7 : Vec Ideal S1x2048 .f32)
  (xo8 : Vec Ideal S512x2048 .f32) (xs1 : Vec Ideal S8x128x512 .f32)

theorem wRead_apply (e2 : Vec Ideal S8x128x512 .f32) (e : Fin 1024) (r : Fin 512) :
    wRead (F := Ideal) arg2 harg2 arg3 harg3 arg5 harg5 arg6 harg6 arg7 harg7 arg11 arg13 arg14 x0 x1 x3 x4 x5 e2 (ix2 e r)
      = ptW x0 x1 x3 x4 x5 e2 e r := by
  unfold wRead
  rw [tiles_apply]
  unfold wAt ptW e1Read zRead zPiece
  simp only [e1Pieces_apply, read_z, dot_apply, ld_x, ld_v, Memref.IsWhole.read_unread]
  rfl

theorem e2Read_apply (k : Fin 8) (n : Fin 128) (r : Fin 512) :
    e2Read (F := Ideal) arg6 harg6 arg7 harg7 arg12 x4 x5 (ix3 k n r) = e2Arr x4 x5 (ix3 k n r) := by
  unfold e2Read
  rw [e2Pieces_apply]
  simp only [Memref.IsWhole.read_unread]

/-- At a sweep's first point: the exponentials of the second scores. -/
theorem outA_e2 (hc0 : cond0_0 i) (hc1 : ¬cond0_1 i) (k : Fin 8) (n : Fin 128) (r : Fin 512) :
    sout0_A_1 (F := Ideal) c i arg2 harg2 arg3 harg3 arg4 harg4 arg5 harg5 arg6 harg6 arg7 harg7 arg8 harg8 arg9 harg9
      arg10 harg10 arg11 harg11 arg12 harg12 arg13 harg13 arg14 harg14 hc0 hc1 x0 x1 x2 x3 x4 x5 x6 x7 (ix3 k n r) = e2Arr x4 x5 (ix3 k n r) := by
  unfold sout0_A_1
  rw [runA_e2, e2Pieces_apply]
  simp only [Memref.IsWhole.read_unread]

/-- At a sweep's first point: the point's own sum. -/
theorem outA (hc0 : cond0_0 i) (hc1 : ¬cond0_1 i) (r : Fin 512) (l : Fin 2048) :
    out0_A_8 (F := Ideal) c i arg2 harg2 arg3 harg3 arg4 harg4 arg5 harg5 arg6 harg6 arg7 harg7 arg8 harg8 arg9 harg9
      arg10 harg10 arg11 harg11 arg12 harg12 arg13 harg13 arg14 harg14 hc0 hc1 x0 x1 x2 x3 x4 x5 x6 x7 (ix2 r l) = ∑ e, ptW x0 x1 x3 x4 x5 (e2Arr x4 x5) e r * x2 (ix2 e l) := by
  unfold out0_A_8
  rw [runA_out, read_out, add_apply, ld_o, ld_w, ld_v, read_out, zero_apply, zero_add]
  refine Finset.sum_congr (M := EReal) rfl fun e _ => ?_
  rw [wRead_apply, Memref.IsWhole.read_unread]
  unfold ptW
  simp only [e2Read_apply]

/-- At a point between: what the result held plus the point's sum. -/
theorem outB (hc0 : ¬cond0_0 i) (hc1 : ¬cond0_1 i) (r : Fin 512) (l : Fin 2048) :
    out0_B_8 (F := Ideal) c i arg2 harg2 arg3 harg3 arg4 harg4 arg5 harg5 arg6 harg6 arg7 harg7 arg8 harg8 arg9 harg9
      arg10 harg10 arg11 harg11 arg12 harg12 arg13 harg13 arg14 harg14 hc0 hc1 x0 x1 x2 x3 x4 x5 x6 x7 xo8 xs1 (ix2 r l)
      = xo8 (ix2 r l) + ∑ e, ptW x0 x1 x3 x4 x5 xs1 e r * x2 (ix2 e l) := by
  unfold out0_B_8
  rw [runB_out, read_out, add_apply, ld_o, ld_w, ld_v, Memref.IsWhole.read_unread, Memref.IsWhole.read_unread,
    Memref.IsWhole.read_unread]
  exact congrArg (_ + ·) (Finset.sum_congr (M := EReal) rfl fun e _ => by rw [wRead_apply])

/-- At a sweep's last point: the residual plus the whole sum, in normal form. -/
theorem outC (hc0 : ¬cond0_0 i) (hc1 : cond0_1 i) (r : Fin 512) (l : Fin 2048) :
    out0_C_8 (F := Ideal) c i arg2 harg2 arg3 harg3 arg4 harg4 arg5 harg5 arg6 harg6 arg7 harg7 arg8 harg8 arg9 harg9
      arg10 harg10 arg11 harg11 arg12 harg12 arg13 harg13 arg14 harg14 hc0 hc1 x0 x1 x2 x3 x4 x5 x6 x7 xo8 xs1 (ix2 r l)
      = rms (f32 1157627904#32)
          (fun l => x6 (ix2 r l) + (xo8 (ix2 r l) + ∑ e, ptW x0 x1 x3 x4 x5 xs1 e r * x2 (ix2 e l))) (fun l => x7 (ix2 0 l)) l := by
  unfold out0_C_8
  rw [runC_out, read_out, last_apply, ld_o, ld_o, ld_g]
  simp only [Memref.IsWhole.read_unread]
  refine rms_congr _ _ (fun l => ?_) l
  refine congrArg (x6 (ix2 r l) + ·) ?_
  rw [read_out, add_apply, ld_o, ld_w, ld_v]
  exact congrArg (xo8 (ix2 r l) + ·) (Finset.sum_congr (M := EReal) rfl fun e _ => by rw [wRead_apply])

end Out

end Cert.PeerProof

end
-- ==== Proof.PeerRef.lean ====
/-
  The experts' reference at an entry: the function `peer` of its arguments.
-/
module

public import proofs.«01_k».proof.Proof.Gen.PeerRefIdeal.Read
public import proofs.«01_k».proof.Proof.PeerRow

@[expose] public section

noncomputable section

namespace Cert.PeerProof

open Idealize.ShloMosaic Idealize.ShloMosaic.TcCoe Idealize.SL.Sem Cert.Rows
open Cert.PeerRefIdeal Cert.PeerRefIdeal.Read

variable (xt : Vec Ideal S2048x8192 .bf16) (u v : Vec Ideal S16384x2048 .f32) (s1 s2 : Vec Ideal S8x128x8192 .f32)
  (st : Vec Ideal S32x8192 .f32) (h : Vec Ideal S8192x2048 .f32) (g : Vec Ideal S1x2048 .f32)

/-! ## The four groups of rows of `st` -/

theorem th_apply (k : Fin 8) (T : Fin 8192) :
    val_main_v3 (F := Ideal) st (ix4 k 0 0 T) = st (ix2 ⟨k.val, by omega⟩ T) := by
  rw [val_main_v3_apply, val_main_v2_apply, val_main_v1_apply, val_main_v0_apply]
  refine congrArg st (funext fun a => Fin.ext ?_)
  match a with
  | ⟨0, _⟩ => show ((0 * 8 + (((k.val * 1 + 0) * 1 + 0) * 8192 + T.val) / 8192 % 8) * 8192 + (((k.val * 1 + 0) * 1 + 0) * 8192 + T.val) % 8192) / 8192 = k.val; omega
  | ⟨1, _⟩ => show ((0 * 8 + (((k.val * 1 + 0) * 1 + 0) * 8192 + T.val) / 8192 % 8) * 8192 + (((k.val * 1 + 0) * 1 + 0) * 8192 + T.val) % 8192) % 8192 = T.val; omega

theorem m1_apply (k : Fin 8) (T : Fin 8192) :
    val_main_v5 (F := Ideal) st (ix4 k 0 0 T) = st (ix2 ⟨8 + k.val, by omega⟩ T) := by
  rw [val_main_v5_apply, val_main_v4_apply, val_main_v1_apply, val_main_v0_apply]
  refine congrArg st (funext fun a => Fin.ext ?_)
  match a with
  | ⟨0, _⟩ => show (((1 + 0) * 8 + (((k.val * 1 + 0) * 1 + 0) * 8192 + T.val) / 8192 % 8) * 8192 + (((k.val * 1 + 0) * 1 + 0) * 8192 + T.val) % 8192) / 8192 = 8 + k.val; omega
  | ⟨1, _⟩ => show (((1 + 0) * 8 + (((k.val * 1 + 0) * 1 + 0) * 8192 + T.val) / 8192 % 8) * 8192 + (((k.val * 1 + 0) * 1 + 0) * 8192 + T.val) % 8192) % 8192 = T.val; omega

theorem m2_apply (k : Fin 8) (T : Fin 8192) :
    val_main_v7 (F := Ideal) st (ix4 k 0 0 T) = st (ix2 ⟨16 + k.val, by omega⟩ T) := by
  rw [val_main_v7_apply, val_main_v6_apply, val_main_v1_apply, val_main_v0_apply]
  refine congrArg st (funext fun a => Fin.ext ?_)
  match a with
  | ⟨0, _⟩ => show (((2 + 0) * 8 + (((k.val * 1 + 0) * 1 + 0) * 8192 + T.val) / 8192 % 8) * 8192 + (((k.val * 1 + 0) * 1 + 0) * 8192 + T.val) % 8192) / 8192 = 16 + k.val; omega
  | ⟨1, _⟩ => show (((2 + 0) * 8 + (((k.val * 1 + 0) * 1 + 0) * 8192 + T.val) / 8192 % 8) * 8192 + (((k.val * 1 + 0) * 1 + 0) * 8192 + T.val) % 8192) % 8192 = T.val; omega

theorem rz_apply (k : Fin 8) (T : Fin 8192) :
    val_main_v9 (F := Ideal) st (ix4 k 0 0 T) = st (ix2 ⟨24 + k.val, by omega⟩ T) := by
  rw [val_main_v9_apply, val_main_v8_apply, val_main_v1_apply, val_main_v0_apply]
  refine congrArg st (funext fun a => Fin.ext ?_)
  match a with
  | ⟨0, _⟩ => show (((3 + 0) * 8 + (((k.val * 1 + 0) * 1 + 0) * 8192 + T.val) / 8192 % 8) * 8192 + (((k.val * 1 + 0) * 1 + 0) * 8192 + T.val) % 8192) / 8192 = 24 + k.val; omega
  | ⟨1, _⟩ => show (((3 + 0) * 8 + (((k.val * 1 + 0) * 1 + 0) * 8192 + T.val) / 8192 % 8) * 8192 + (((k.val * 1 + 0) * 1 + 0) * 8192 + T.val) % 8192) % 8192 = T.val; omega

/-! ## The weights -/

/-- One head's weight of the expert of the two halves `a` and `b`. -/
theorem v24_apply (k : Fin 8) (a b : Fin 128) (T : Fin 8192) :
    val_main_v24 (F := Ideal) s1 s2 st (ix4 k a b T)
      = if st (ix2 ⟨k.val, by omega⟩ T) ≤ s1 (ix3 k a T) + s2 (ix3 k b T)
        then Ideal.exp (s1 (ix3 k a T) + s2 (ix3 k b T) - st (ix2 ⟨8 + k.val, by omega⟩ T) - st (ix2 ⟨16 + k.val, by omega⟩ T))
          * st (ix2 ⟨24 + k.val, by omega⟩ T) else 0 := by
  rw [← th_apply st k T, ← m1_apply st k T, ← m2_apply st k T, ← rz_apply st k T]
  unfold val_main_v24 val_main_v23 val_main_v22 val_main_v21 val_main_v20 val_main_v19 val_main_v18 val_main_v17 val_main_v16
    val_main_v15 val_main_v14 val_main_v13 val_main_v12 val_main_v11 val_main_v10 val_main_call0_v1 val_main_call0_v0 val_main_cst
  generalize val_main_v3 (F := Ideal) st = y
  generalize val_main_v5 (F := Ideal) st = z
  generalize val_main_v7 (F := Ideal) st = w
  generalize val_main_v9 (F := Ideal) st = x
  simp only [id_eq]
  pointwise []

/-- The weights summed over the heads. -/
theorem v26_apply (e : Fin 16384) (T : Fin 8192) :
    val_main_v26 (F := Ideal) s1 s2 st (ix2 e T)
      = ∑ k : Fin 8, val_main_v24 (F := Ideal) s1 s2 st (ix4 k ⟨e.val / 128, by omega⟩ ⟨e.val % 128, by omega⟩ T) := by
  have hi : idx_main_v26 (ix2 e T) = (ix3 ⟨e.val / 128, by omega⟩ ⟨e.val % 128, by omega⟩ T : S128x128x8192.Idx) :=
    funext fun a => Fin.ext (by
      match a with
      | ⟨0, _⟩ => show (e.val * 8192 + T.val) / 1048576 = e.val / 128; omega
      | ⟨1, _⟩ => show (e.val * 8192 + T.val) / 8192 % 128 = e.val % 128; omega
      | ⟨2, _⟩ => show (e.val * 8192 + T.val) % 8192 = T.val; omega)
  rw [val_main_v26_apply, hi]
  unfold val_main_v25 val_main_cst_0
  generalize val_main_v24 (F := Ideal) s1 s2 st = y
  pointwise []

/-- The experts' activations. -/
theorem v41_apply (e : Fin 16384) (T : Fin 8192) :
    val_main_v41 (F := Ideal) xt u (ix2 e T) = gelu (∑ k, u (ix2 e k) * xt (ix2 k T)) := by
  have h28 : val_main_v28 (F := Ideal) xt u (ix2 e T) = ∑ k, u (ix2 e k) * xt (ix2 k T) := by
    unfold val_main_v28 val_main_v27
    pointwise [dot_S16384x2048_S2048x8192_S16384x8192_1_0_0_1_n_n]
  rw [← h28]
  unfold val_main_v41 val_main_v40 val_main_v39 val_main_v38 val_main_v37 val_main_v36 val_main_v35 val_main_v34 val_main_v33
    val_main_v32 val_main_v31 val_main_v30 val_main_v29 val_main_cst_1 val_main_cst_2 val_main_cst_3 val_main_cst_4
  generalize val_main_v28 (F := Ideal) xt u = y
  pointwise []
  simp only [gelu, mul_assoc]

/-- And weighted. -/
theorem v42_apply (e : Fin 16384) (T : Fin 8192) :
    val_main_v42 (F := Ideal) xt u s1 s2 st (ix2 e T)
      = hidden (fun k T => xt (ix2 k T)) (fun e k => u (ix2 e k)) (fun k a T => s1 (ix3 k a T)) (fun k a T => s2 (ix3 k a T))
          (fun k T => st (ix2 k T)) T e := by
  rw [val_main_v42_apply, v26_apply, v41_apply]
  simp only [v24_apply]
  rfl

/-- The reference's result at an entry. -/
theorem ref_apply (T : Fin 8192) (l : Fin 2048) :
    val_main_v57 (F := Ideal) xt u v s1 s2 st h g (ix2 T l)
      = peer (fun k T => xt (ix2 k T)) (fun e k => u (ix2 e k)) (fun e k => v (ix2 e k)) (fun k a T => s1 (ix3 k a T))
          (fun k a T => s2 (ix3 k a T)) (fun k T => st (ix2 k T)) (fun T k => h (ix2 T k)) (fun k => g (ix2 0 k)) T l := by
  have h45 (T : Fin 8192) (l : Fin 2048) : val_main_v45 (F := Ideal) xt u v s1 s2 st h (ix2 T l)
      = h (ix2 T l) + ∑ e, val_main_v42 (F := Ideal) xt u s1 s2 st (ix2 e T) * v (ix2 e l) := by
    unfold val_main_v45 val_main_v44 val_main_v43
    generalize val_main_v42 (F := Ideal) xt u s1 s2 st = y
    pointwise [dot_S8192x16384_S16384x2048_S8192x2048_1_0_0_1_n_n]
  unfold peer
  simp only [← v42_apply]
  simp only [← h45]
  unfold val_main_v57 val_main_v56 val_main_v55 val_main_v54 val_main_v53 val_main_v52 val_main_v51 val_main_v50 val_main_v49
    val_main_v48 val_main_v47 val_main_v46 val_main_cst_5 val_main_cst_6 val_main_cst_7 rms
  generalize val_main_v45 (F := Ideal) xt u v s1 s2 st h = y
  pointwise []

end Cert.PeerProof

end
-- ==== Proof.Peer.lean ====
/-
  The experts' call: the kernel's result array and the reference's, both as `peer` of the arguments. A sweep of sixteen
  grid points keeps one block of tokens and goes through the experts, adding each point's share to the result block;
  the first point also stores the exponentials of the second scores, which the others read.
-/
module

public import proofs.«01_k».proof.Defs
public import proofs.«01_k».proof.Proof.Gen.PeerIdeal.Value
public import proofs.«01_k».proof.Proof.PeerOut
public import proofs.«01_k».proof.Proof.PeerRef
public import Idealize.ShloMosaic.Lib.Quiescent

@[expose] public section

noncomputable section

namespace Cert.PeerProof

open Idealize.ShloMosaic Idealize.ShloMosaic.TcCoe Idealize.SL.Sem Cert.Rows
open Idealize.ShloMosaic.Pipeline (Dat)

section Kernel

open Cert.PeerIdeal Cert.PeerIdeal.Gen

variable (m : (ℓ : Loc nD τ sig) → Buf (Elt Ideal) ℓ) (ρ : Dev nD → PrngReg)

/-- Expert `e`'s weighted activation at token `T`, from the call's arguments. -/
abbrev hid (c : Dev nD) (T : Fin 8192) (e : Fin 16384) : EReal :=
  hidden (fun k T => m ((c : Thread nD τ).loc main_arg0) (ix2 k T)) (fun e k => m ((c : Thread nD τ).loc main_arg1) (ix2 e k))
    (fun k a T => m ((c : Thread nD τ).loc main_arg3) (ix3 k a T)) (fun k a T => m ((c : Thread nD τ).loc main_arg4) (ix3 k a T))
    (fun k T => m ((c : Thread nD τ).loc main_arg5) (ix2 k T)) T e

/-- The kernel's result array. -/
abbrev G (c : Dev nD) : Buf (Elt Ideal) ((c : Thread nD τ).loc main_v2) := fun i : S8192x2048.Idx =>
  peer (fun k T => m ((c : Thread nD τ).loc main_arg0) (ix2 k T)) (fun e k => m ((c : Thread nD τ).loc main_arg1) (ix2 e k))
    (fun e k => m ((c : Thread nD τ).loc main_arg2) (ix2 e k)) (fun k a T => m ((c : Thread nD τ).loc main_arg3) (ix3 k a T))
    (fun k a T => m ((c : Thread nD τ).loc main_arg4) (ix3 k a T)) (fun k T => m ((c : Thread nD τ).loc main_arg5) (ix2 k T))
    (fun T k => m ((c : Thread nD τ).loc main_arg6) (ix2 T k)) (fun k => m ((c : Thread nD τ).loc main_arg7) (ix2 0 k)) (i 0) (i 1)

/-! ## The blocks -/

/-- Where each window's block lies at a grid point: sixteen sweeps over the experts, one a block of tokens. -/
theorem idx_facts : ∀ t : Fin grid0.N, t.val < 256 ∧ (win0_0.index t 0 = 0 ∧ win0_0.index t 1 = t.val / 16)
    ∧ (win0_1.index t 0 = t.val % 16 ∧ win0_1.index t 1 = 0) ∧ (win0_2.index t 0 = t.val % 16 ∧ win0_2.index t 1 = 0)
    ∧ (win0_3.index t 0 = 0 ∧ win0_3.index t 1 = t.val % 16 ∧ win0_3.index t 2 = t.val / 16)
    ∧ (win0_4.index t 0 = 0 ∧ win0_4.index t 1 = 0 ∧ win0_4.index t 2 = t.val / 16)
    ∧ (win0_5.index t 0 = 0 ∧ win0_5.index t 1 = t.val / 16) ∧ (win0_6.index t 0 = t.val / 16 ∧ win0_6.index t 1 = 0)
    ∧ (win0_7.index t 0 = 0 ∧ win0_7.index t 1 = 0) ∧ (win0_8.index t 0 = t.val / 16 ∧ win0_8.index t 1 = 0) := by decide +kernel

/-- The experts' input vectors as the kernel reads them: those of the argument, whose cast is the identity here. -/
theorem V_u (c : Dev nD) (i : S16384x2048.Idx) : V m c main_v0 i = m ((c : Thread nD τ).loc main_arg1) i := by
  unfold V hostOps0
  after_results_simp
  rfl

/-- The output vectors likewise. -/
theorem V_v (c : Dev nD) (i : S16384x2048.Idx) : V m c main_v1 i = m ((c : Thread nD τ).loc main_arg2) i := by
  unfold V hostOps0
  after_results_simp
  rfl

theorem iblk0 (c : Dev nD) (t : Fin cfg0.N) (k : Fin 2048) (r : Fin 512) (T : Fin 8192) (hT : T.val = t.val / 16 * 512 + r.val) :
    iblk m c 0 t (ix2 k r) = m ((c : Thread nD τ).loc main_arg0) (ix2 k T) := by
  have h := idx_facts t
  show V m c main_arg0 ((win0_0.rect t).emb (ix2 k r)) = _
  rw [V_main_arg0]
  refine congrArg (m ((c : Thread nD τ).loc main_arg0)) (funext fun a => Fin.ext ?_)
  refine (win0_0.rect_emb_val t (ix2 k r) a).trans ?_
  match a with
  | ⟨0, _⟩ => show win0_0.index t 0 * 2048 + k.val = k.val; omega
  | ⟨1, _⟩ => show win0_0.index t 1 * 512 + r.val = T.val; omega

theorem iblk1 (c : Dev nD) (t : Fin cfg0.N) (e : Fin 1024) (k : Fin 2048) (E : Fin 16384) (hE : E.val = t.val % 16 * 1024 + e.val) :
    iblk m c 1 t (ix2 e k) = m ((c : Thread nD τ).loc main_arg1) (ix2 E k) := by
  have h := idx_facts t
  show V m c main_v0 ((win0_1.rect t).emb (ix2 e k)) = _
  rw [V_u]
  refine congrArg (m ((c : Thread nD τ).loc main_arg1)) (funext fun a => Fin.ext ?_)
  refine (win0_1.rect_emb_val t (ix2 e k) a).trans ?_
  match a with
  | ⟨0, _⟩ => show win0_1.index t 0 * 1024 + e.val = E.val; omega
  | ⟨1, _⟩ => show win0_1.index t 1 * 2048 + k.val = k.val; omega

theorem iblk2 (c : Dev nD) (t : Fin cfg0.N) (e : Fin 1024) (k : Fin 2048) (E : Fin 16384) (hE : E.val = t.val % 16 * 1024 + e.val) :
    iblk m c 2 t (ix2 e k) = m ((c : Thread nD τ).loc main_arg2) (ix2 E k) := by
  have h := idx_facts t
  show V m c main_v1 ((win0_2.rect t).emb (ix2 e k)) = _
  rw [V_v]
  refine congrArg (m ((c : Thread nD τ).loc main_arg2)) (funext fun a => Fin.ext ?_)
  refine (win0_2.rect_emb_val t (ix2 e k) a).trans ?_
  match a with
  | ⟨0, _⟩ => show win0_2.index t 0 * 1024 + e.val = E.val; omega
  | ⟨1, _⟩ => show win0_2.index t 1 * 2048 + k.val = k.val; omega

theorem iblk3 (c : Dev nD) (t : Fin cfg0.N) (k a : Fin 8) (r : Fin 512) (A : Fin 128) (hA : A.val = t.val % 16 * 8 + a.val)
    (T : Fin 8192) (hT : T.val = t.val / 16 * 512 + r.val) :
    iblk m c 3 t (ix3 k a r) = m ((c : Thread nD τ).loc main_arg3) (ix3 k A T) := by
  have h := idx_facts t
  show V m c main_arg3 ((win0_3.rect t).emb (ix3 k a r)) = _
  rw [V_main_arg3]
  refine congrArg (m ((c : Thread nD τ).loc main_arg3)) (funext fun b => Fin.ext ?_)
  refine (win0_3.rect_emb_val t (ix3 k a r) b).trans ?_
  match b with
  | ⟨0, _⟩ => show win0_3.index t 0 * 8 + k.val = k.val; omega
  | ⟨1, _⟩ => show win0_3.index t 1 * 8 + a.val = A.val; omega
  | ⟨2, _⟩ => show win0_3.index t 2 * 512 + r.val = T.val; omega

theorem iblk4 (c : Dev nD) (t : Fin cfg0.N) (k : Fin 8) (a : Fin 128) (r : Fin 512) (T : Fin 8192)
    (hT : T.val = t.val / 16 * 512 + r.val) :
    iblk m c 4 t (ix3 k a r) = m ((c : Thread nD τ).loc main_arg4) (ix3 k a T) := by
  have h := idx_facts t
  show V m c main_arg4 ((win0_4.rect t).emb (ix3 k a r)) = _
  rw [V_main_arg4]
  refine congrArg (m ((c : Thread nD τ).loc main_arg4)) (funext fun b => Fin.ext ?_)
  refine (win0_4.rect_emb_val t (ix3 k a r) b).trans ?_
  match b with
  | ⟨0, _⟩ => show win0_4.index t 0 * 8 + k.val = k.val; omega
  | ⟨1, _⟩ => show win0_4.index t 1 * 128 + a.val = a.val; omega
  | ⟨2, _⟩ => show win0_4.index t 2 * 512 + r.val = T.val; omega

theorem iblk5 (c : Dev nD) (t : Fin cfg0.N) (k : Fin 32) (r : Fin 512) (T : Fin 8192) (hT : T.val = t.val / 16 * 512 + r.val) :
    iblk m c 5 t (ix2 k r) = m ((c : Thread nD τ).loc main_arg5) (ix2 k T) := by
  have h := idx_facts t
  show V m c main_arg5 ((win0_5.rect t).emb (ix2 k r)) = _
  rw [V_main_arg5]
  refine congrArg (m ((c : Thread nD τ).loc main_arg5)) (funext fun a => Fin.ext ?_)
  refine (win0_5.rect_emb_val t (ix2 k r) a).trans ?_
  match a with
  | ⟨0, _⟩ => show win0_5.index t 0 * 32 + k.val = k.val; omega
  | ⟨1, _⟩ => show win0_5.index t 1 * 512 + r.val = T.val; omega

theorem iblk6 (c : Dev nD) (t : Fin cfg0.N) (r : Fin 512) (k : Fin 2048) (T : Fin 8192) (hT : T.val = t.val / 16 * 512 + r.val) :
    iblk m c 6 t (ix2 r k) = m ((c : Thread nD τ).loc main_arg6) (ix2 T k) := by
  have h := idx_facts t
  show V m c main_arg6 ((win0_6.rect t).emb (ix2 r k)) = _
  rw [V_main_arg6]
  refine congrArg (m ((c : Thread nD τ).loc main_arg6)) (funext fun a => Fin.ext ?_)
  refine (win0_6.rect_emb_val t (ix2 r k) a).trans ?_
  match a with
  | ⟨0, _⟩ => show win0_6.index t 0 * 512 + r.val = T.val; omega
  | ⟨1, _⟩ => show win0_6.index t 1 * 2048 + k.val = k.val; omega

theorem iblk7 (c : Dev nD) (t : Fin cfg0.N) (k : Fin 2048) :
    iblk m c 7 t (ix2 0 k) = m ((c : Thread nD τ).loc main_arg7) (ix2 0 k) := by
  have h := idx_facts t
  show V m c main_arg7 ((win0_7.rect t).emb (ix2 0 k)) = _
  rw [V_main_arg7]
  refine congrArg (m ((c : Thread nD τ).loc main_arg7)) (funext fun a => Fin.ext ?_)
  refine (win0_7.rect_emb_val t (ix2 0 k) a).trans ?_
  match a with
  | ⟨0, _⟩ => show win0_7.index t 0 * 1 + 0 = 0; omega
  | ⟨1, _⟩ => show win0_7.index t 1 * 2048 + k.val = k.val; omega

/-! ## One sweep -/

/-- Expert `e`'s share of entry `l` of token `T`'s sum (nothing past the last expert). -/
def share (c : Dev nD) (T : Fin 8192) (l : Fin 2048) (e : Nat) : EReal :=
  if h : e < 16384 then hid m c T ⟨e, h⟩ * m ((c : Thread nD τ).loc main_arg2) (ix2 ⟨e, h⟩ l) else 0

/-- An exponential times a factor. -/
abbrev expMul (x y z : EReal) : EReal := Ideal.exp (x - y) * z

/-- A sum of two. -/
abbrev add2 (x y : EReal) : EReal := x + y

/-- The stored exponentials of the second scores are those of the arguments. -/
def Stored (c : Dev nD) (i : Nat) (e2 : Vec Ideal S8x128x512 .f32) : Prop :=
  ∀ (k : Fin 8) (a : Fin 128) (r : Fin 512) (T : Fin 8192), T.val = i * 512 + r.val →
    e2 (ix3 k a r) = expMul (m ((c : Thread nD τ).loc main_arg4) (ix3 k a T))
      (m ((c : Thread nD τ).loc main_arg5) (ix2 ⟨16 + k.val, by omega⟩ T)) (m ((c : Thread nD τ).loc main_arg5) (ix2 ⟨24 + k.val, by omega⟩ T))

/-- The first `n` experts' shares are in the result block. -/
def Summed (c : Dev nD) (i n : Nat) (o : Vec Ideal S512x2048 .f32) : Prop :=
  ∀ (r : Fin 512) (l : Fin 2048) (T : Fin 8192), T.val = i * 512 + r.val → o (ix2 r l) = ∑ e ∈ Finset.range n, share m c T l e

/-- What a sweep's first point stores. -/
theorem stored_first (c : Dev nD) (t : Fin cfg0.N) : Stored m c (t.val / 16) (e2Arr (iblk m c 4 t) (iblk m c 5 t)) := by
  intro k a r T hT
  show expMul (iblk m c 4 t (ix3 k a r)) (iblk m c 5 t (ix2 ⟨16 + k.val, by omega⟩ r)) (iblk m c 5 t (ix2 ⟨24 + k.val, by omega⟩ r)) = _
  rw [iblk4 m c t k a r T hT, iblk5 m c t _ r T hT, iblk5 m c t _ r T hT]

/-- One weighted activation at a point. -/
theorem ptW_eq (c : Dev nD) (t : Fin cfg0.N) (e2 : Vec Ideal S8x128x512 .f32) (h2 : Stored m c (t.val / 16) e2) (e : Fin 1024)
    (r : Fin 512) (T : Fin 8192) (hT : T.val = t.val / 16 * 512 + r.val) (E : Fin 16384) (hE : E.val = t.val % 16 * 1024 + e.val) :
    ptW (iblk m c 0 t) (iblk m c 1 t) (iblk m c 3 t) (iblk m c 4 t) (iblk m c 5 t) e2 e r = hid m c T E := by
  have hb : (⟨e.val % 128, by omega⟩ : Fin 128) = ⟨E.val % 128, by omega⟩ := Fin.ext (by show e.val % 128 = E.val % 128; omega)
  have h3 (k : Fin 8) : iblk m c 3 t (ix3 k ⟨e.val / 128, by omega⟩ r)
      = m ((c : Thread nD τ).loc main_arg3) (ix3 k ⟨E.val / 128, by omega⟩ T) :=
    iblk3 m c t k _ r _ (by show E.val / 128 = t.val % 16 * 8 + e.val / 128; omega) T hT
  unfold ptW hid hidden
  rw [← weight_eq_gate]
  refine congrArg₂ (· * ·) (weight_congr h3 (fun k => ?_) (fun k => iblk5 m c t _ r T hT) (fun k => ?_) (fun k => ?_)) (congrArg gelu ?_)
  · rw [hb]; exact iblk4 m c t k _ r T hT
  · rw [h3, iblk5 m c t _ r T hT]
  · rw [hb]; exact h2 k _ r T hT
  · exact Finset.sum_congr rfl fun k _ => congrArg₂ (· * ·) (iblk1 m c t e k E hE) (iblk0 m c t k r T hT)

/-- One point's sum: the next 1024 experts' shares. -/
theorem point_sum (c : Dev nD) (t : Fin cfg0.N) (e2 : Vec Ideal S8x128x512 .f32) (h2 : Stored m c (t.val / 16) e2)
    (r : Fin 512) (l : Fin 2048) (T : Fin 8192) (hT : T.val = t.val / 16 * 512 + r.val) :
    ∑ e : Fin 1024, ptW (iblk m c 0 t) (iblk m c 1 t) (iblk m c 3 t) (iblk m c 4 t) (iblk m c 5 t) e2 e r * iblk m c 2 t (ix2 e l)
      = ∑ e ∈ Finset.range 1024, share m c T l (t.val % 16 * 1024 + e) := by
  rw [Finset.sum_range]
  refine Finset.sum_congr rfl fun e _ => ?_
  have hE : t.val % 16 * 1024 + e.val < 16384 := by omega
  rw [share, dif_pos hE, ptW_eq m c t e2 h2 e r T hT ⟨_, hE⟩ rfl, iblk2 m c t e l ⟨_, hE⟩ rfl]

/-- A sweep's first point stores the exponentials … -/
theorem first_stored (c : Dev nD) (t : Fin cfg0.N) (h0 : t.val % 16 = 0) (h1 : ¬t.val % 16 = 15) :
    Stored m c (t.val / 16) (outsAt0 m c t.val t.isLt).2 := by
  intro k a r T hT
  rw [outsAt0_A m c t h0 h1]
  dsimp only
  rw [outA_e2]
  exact stored_first m c t k a r T hT

/-- … and leaves its own sum. -/
theorem first_summed (c : Dev nD) (t : Fin cfg0.N) (h0 : t.val % 16 = 0) (h1 : ¬t.val % 16 = 15) :
    Summed m c (t.val / 16) 1024 (outsAt0 m c t.val t.isLt).1 := by
  intro r l T hT
  rw [outsAt0_A m c t h0 h1]
  dsimp only
  rw [outA, point_sum m c t _ (stored_first m c t) r l T hT, h0]
  exact Finset.sum_congr rfl fun e _ => congrArg _ (Nat.zero_add e)

/-- The points after it keep the exponentials … -/
theorem next_stored (c : Dev nD) (t : Fin cfg0.N) (h0 : ¬t.val % 16 = 0) (i2 : Stored m c (t.val / 16)
    (outsAt0 m c (t.val - 1) (Nat.lt_of_le_of_lt (Nat.sub_le _ _) t.isLt)).2) :
    Stored m c (t.val / 16) (outsAt0 m c t.val t.isLt).2 := by
  by_cases h1 : t.val % 16 = 15
  · rw [outsAt0_C m c t h0 h1]
    exact i2
  · rw [outsAt0_B m c t h0 h1]
    exact i2

/-- … and, but for the last, add their sum. -/
theorem next_summed (c : Dev nD) (t : Fin cfg0.N) (h0 : ¬t.val % 16 = 0) (h1 : ¬t.val % 16 = 15)
    (i2 : Stored m c (t.val / 16) (outsAt0 m c (t.val - 1) (Nat.lt_of_le_of_lt (Nat.sub_le _ _) t.isLt)).2)
    (i1 : Summed m c (t.val / 16) (t.val % 16 * 1024) (outsAt0 m c (t.val - 1) (Nat.lt_of_le_of_lt (Nat.sub_le _ _) t.isLt)).1) :
    Summed m c (t.val / 16) (t.val % 16 * 1024 + 1024) (outsAt0 m c t.val t.isLt).1 := by
  intro r l T hT
  rw [outsAt0_B m c t h0 h1]
  dsimp only
  rw [outB, point_sum m c t _ i2 r l T hT, i1 r l T hT, Finset.sum_range_add]

/-- The last adds its sum and the residual, and takes the normal form. -/
theorem last_out (c : Dev nD) (t : Fin cfg0.N) (h0 : ¬t.val % 16 = 0) (h1 : t.val % 16 = 15)
    (i2 : Stored m c (t.val / 16) (outsAt0 m c (t.val - 1) (Nat.lt_of_le_of_lt (Nat.sub_le _ _) t.isLt)).2)
    (i1 : Summed m c (t.val / 16) (t.val % 16 * 1024) (outsAt0 m c (t.val - 1) (Nat.lt_of_le_of_lt (Nat.sub_le _ _) t.isLt)).1)
    (r : Fin 512) (l : Fin 2048) (T : Fin 8192) (hT : T.val = t.val / 16 * 512 + r.val) :
    (outsAt0 m c t.val t.isLt).1 (ix2 r l)
      = rms (f32 1157627904#32) (fun l => add2 (m ((c : Thread nD τ).loc main_arg6) (ix2 T l))
          (∑ e ∈ Finset.range (t.val % 16 * 1024 + 1024), share m c T l e)) (fun l => m ((c : Thread nD τ).loc main_arg7) (ix2 0 l)) l := by
  rw [outsAt0_C m c t h0 h1]
  dsimp only
  rw [outC]
  rw [show (fun l => iblk m c 7 t (ix2 0 l)) = fun l => m ((c : Thread nD τ).loc main_arg7) (ix2 0 l) from funext (iblk7 m c t)]
  refine rms_congr _ _ (fun l => ?_) l
  rw [point_sum m c t _ i2 r l T hT, i1 r l T hT, Finset.sum_range_add, iblk6 m c t r l T hT]

/-- Before a sweep's last point the result block holds the shares of the experts met so far; and the exponentials stay stored. -/
theorem sweep (c : Dev nD) : ∀ (n : Nat) (hn : n < cfg0.N), Stored m c (n / 16) (outsAt0 m c n hn).2
    ∧ (n % 16 ≠ 15 → Summed m c (n / 16) (n % 16 * 1024 + 1024) (outsAt0 m c n hn).1)
  | 0, hn => ⟨first_stored m c ⟨0, hn⟩ rfl (show ¬0 % 16 = 15 by decide), fun _ => first_summed m c ⟨0, hn⟩ rfl (show ¬0 % 16 = 15 by decide)⟩
  | n + 1, hn => by
    obtain ⟨i2, i1⟩ := sweep c n (Nat.lt_of_succ_lt hn)
    by_cases h0 : (n + 1) % 16 = 0
    · have h1 : ¬(n + 1) % 16 = 15 := by omega
      refine ⟨first_stored m c ⟨n + 1, hn⟩ h0 h1, fun _ => ?_⟩
      rw [h0]
      exact first_summed m c ⟨n + 1, hn⟩ h0 h1
    · have hd : n / 16 = (n + 1) / 16 := by omega
      have hm : n % 16 * 1024 + 1024 = (n + 1) % 16 * 1024 := by omega
      rw [hd] at i2
      refine ⟨next_stored m c ⟨n + 1, hn⟩ h0 i2, fun h1 => ?_⟩
      have i1 := i1 (by omega)
      rw [hd, hm] at i1
      exact next_summed m c ⟨n + 1, hn⟩ h0 h1 i2 i1

/-- The shares of all experts. -/
theorem share_sum (c : Dev nD) (T : Fin 8192) (l : Fin 2048) :
    ∑ e ∈ Finset.range (15 * 1024 + 1024), share m c T l e
      = ∑ e : Fin 16384, hid m c T e * m ((c : Thread nD τ).loc main_arg2) (ix2 e l) := by
  show ∑ e ∈ Finset.range 16384, share m c T l e = _
  rw [Finset.sum_range]
  exact Finset.sum_congr rfl fun e _ => dif_pos e.isLt

/-- The block a sweep leaves, at its last point. -/
theorem last (c : Dev nD) (t : Fin cfg0.N) (h1 : t.val % 16 = 15) (r : Fin 512) (l : Fin 2048) (T : Fin 8192)
    (hT : T.val = t.val / 16 * 512 + r.val) : (outsAt0 m c t.val t.isLt).1 (ix2 r l) = G m c (ix2 T l) := by
  have h0 : ¬t.val % 16 = 0 := by omega
  have hd : (t.val - 1) / 16 = t.val / 16 := by omega
  have hm : (t.val - 1) % 16 * 1024 + 1024 = t.val % 16 * 1024 := by omega
  obtain ⟨i2, i1⟩ := sweep m c (t.val - 1) (Nat.lt_of_le_of_lt (Nat.sub_le _ _) t.isLt)
  rw [hd] at i2
  have i1 := i1 (by omega)
  rw [hd, hm] at i1
  rw [last_out m c t h0 h1 i2 i1 r l T hT, h1]
  show _ = peer _ _ _ _ _ _ _ _ T l
  unfold peer
  simp only [share_sum]

/-- What a sweep's last point writes back is its block of `G`. -/
theorem flushed_eq (c : Dev nD) (t : Fin cfg0.N) (hf : (cfg0.win 8).flush t = true) :
    (dats m 0 c).flushed 8 t = (win0_8.blk t).view.read (Elt Ideal) (G m c) := by
  have h1 : t.val % 16 = 15 := (flush0_8 t).mp hf
  rw [Value.flushed8]
  funext y
  have h := idx_facts t
  obtain ⟨r, l, rfl⟩ : ∃ (r : Fin 512) (l : Fin 2048), y = ix2 r l := ⟨y 0, y 1, eq_ix2 y⟩
  obtain ⟨T, hT⟩ : ∃ T : Fin 8192, T.val = t.val / 16 * 512 + r.val := ⟨⟨t.val / 16 * 512 + r.val, by omega⟩, rfl⟩
  have e : (win0_8.rect t).emb (ix2 r l) = (ix2 T l : S8192x2048.Idx) := funext fun a => Fin.ext (by
    refine (win0_8.rect_emb_val t (ix2 r l) a).trans ?_
    match a with
    | ⟨0, _⟩ => show win0_8.index t 0 * 512 + r.val = T.val; omega
    | ⟨1, _⟩ => show win0_8.index t 1 * 2048 + l.val = l.val; omega)
  show (outsAt0 m c t.val t.isLt).1 (ix2 r l) = G m c ((win0_8.rect t).emb (ix2 r l))
  rw [e]
  exact last m c t h1 r l T hT

/-- The sixteen blocks of tokens cover the result. -/
theorem cover (i : S8192x2048.Idx) : ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 256 := N_0
  obtain ⟨t, ht⟩ : ∃ t : Fin cfg0.N, t.val = (i 0 : Nat) / 512 * 16 + 15 := ⟨⟨(i 0 : Nat) / 512 * 16 + 15, by omega⟩, rfl⟩
  have h := idx_facts t
  refine ⟨t, (flush0_8 t).mpr (by omega), ?_⟩
  show i ∈ ((View.whole main_v2).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512; omega
  | ⟨1, _⟩ => show win0_8.index t 1 * 2048 ≤ (i 1 : Nat) ∧ (i 1 : Nat) < win0_8.index t 1 * 2048 + 2048; omega

/-- The kernel's result array after the run. -/
theorem final (c : Dev nD) : (dats m 0 c).arrAt 8 cfg0.N = G m c :=
  (dats m 0 c).arrAt_eq_of_cover 8 (G m c) (fun t hf => flushed_eq m c t hf) cover

end Kernel

/-- The claim: from the same arguments the kernel and the reference end with the same array. -/
theorem algebraic : Cert.algebraic_PeerIdeal_PeerRefIdeal := by
  intro m ρ m' ρ' _ hagree
  refine ⟨fun c => G m c, ?_, ?_⟩
  · exact (θ_run Cert.PeerIdeal.defs _ _).mono (fun _ h c => ⟨(h c).1.trans (final m c), (h c).2⟩)
      (Cert.PeerIdeal.Value.run_blocks (F := Ideal) m ρ)
  · refine (θ_run Cert.PeerRefIdeal.defs _ _).mono (fun _ h c => ⟨(h c).1.trans ?_, (h c).2⟩)
      (Cert.PeerRefIdeal.Value.run (F := Ideal) m' ρ')
    refine (Cert.PeerRefIdeal.Read.val_main_v57_eq (F := Ideal) _ _).trans ?_
    obtain ⟨h0, h1, h2, h3, h4, h5, h6, h7⟩ := hagree c
    rw [h0, h1, h2, h3, h4, h5, h6, h7]
    funext i
    obtain ⟨r, l, rfl⟩ : ∃ (r : Fin 8192) (l : Fin 2048), i = ix2 r l := ⟨i 0, i 1, eq_ix2 i⟩
    exact ref_apply _ _ _ _ _ _ _ _ r l

/-- The reference runs, leaves its arguments unchanged and has no semaphores. -/
theorem frame_ref : Cert.quiescent_PeerRefIdeal := fun m ρ _ =>
  (θ_run Cert.PeerRefIdeal.defs _ _).mono (fun r h => ⟨fun c => (h c).2, sem_eq_zero_of_no_sems (by decide) r.2⟩)
    (Cert.PeerRefIdeal.Value.run (F := Ideal) m ρ)

end Cert.PeerProof

end
-- ==== Proof.lean ====
/-
  The certificate's claim, put together: for each call of the layer that is claimed, the frames of the kernel as it is,
  of its ideal reading and of the reference (generated for the first two), that the ideal reading changes nothing, and
  that kernel and reference compute the same array over the extended reals (the module of the call's name).
-/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.KvProj
public import proofs.«01_k».proof.Proof.Gen.KvProjIdeal
public import proofs.«01_k».proof.Proof.Gen.KvProjRefIdeal
public import proofs.«01_k».proof.Proof.Gen.MixOut
public import proofs.«01_k».proof.Proof.Gen.MixOutIdeal
public import proofs.«01_k».proof.Proof.Gen.MixOutRefIdeal
public import proofs.«01_k».proof.Proof.Gen.MixIn
public import proofs.«01_k».proof.Proof.Gen.MixInIdeal
public import proofs.«01_k».proof.Proof.Gen.MixInRefIdeal
public import proofs.«01_k».proof.Proof.Gen.Route
public import proofs.«01_k».proof.Proof.Gen.RouteIdeal
public import proofs.«01_k».proof.Proof.Gen.RouteRefIdeal
public import proofs.«01_k».proof.Proof.Gen.Peer
public import proofs.«01_k».proof.Proof.Gen.PeerIdeal
public import proofs.«01_k».proof.Proof.Gen.PeerRefIdeal
public import proofs.«01_k».proof.Proof.Gen.Attn.Frame
public import proofs.«01_k».proof.Proof.Attn
public import proofs.«01_k».proof.Proof.Gen.KvProj.Frame
public import proofs.«01_k».proof.Proof.KvProj
public import proofs.«01_k».proof.Proof.Gen.MixOut.Frame
public import proofs.«01_k».proof.Proof.MixOut
public import proofs.«01_k».proof.Proof.Gen.MixIn.Frame
public import proofs.«01_k».proof.Proof.MixIn
public import proofs.«01_k».proof.Proof.Gen.Route.Frame
public import proofs.«01_k».proof.Proof.Route
public import proofs.«01_k».proof.Proof.Gen.Peer.Frame
public import proofs.«01_k».proof.Proof.Peer
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.KvProjIdeal.Value
public import proofs.«01_k».proof.Proof.Gen.KvProjRefIdeal.Run
public import proofs.«01_k».proof.Proof.Gen.KvProjRefIdeal.Read
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.RouteIdeal.Value
public import proofs.«01_k».proof.Proof.Gen.RouteRefIdeal.Run
public import proofs.«01_k».proof.Proof.Gen.RouteRefIdeal.Read
public import proofs.«01_k».proof.Proof.Gen.PeerIdeal.Value
public import proofs.«01_k».proof.Proof.Gen.PeerRefIdeal.Run
public import proofs.«01_k».proof.Proof.Gen.PeerRefIdeal.Read
public import Idealize.ShloMosaic.Adequacy
public import Idealize.ShloMosaic.Init

@[expose] public section

noncomputable section

namespace Cert.Proof

/-- Every claim of the certificate. -/
theorem claim : Cert.Claim := ⟨
  Cert.Attn.Gen.facts,
  Cert.AttnIdeal.Gen.facts,
  Cert.AttnRefIdeal.Gen.facts,
  Cert.KvProj.Gen.facts,
  Cert.KvProjIdeal.Gen.facts,
  Cert.KvProjRefIdeal.Gen.facts,
  Cert.MixOut.Gen.facts,
  Cert.MixOutIdeal.Gen.facts,
  Cert.MixOutRefIdeal.Gen.facts,
  Cert.MixIn.Gen.facts,
  Cert.MixInIdeal.Gen.facts,
  Cert.MixInRefIdeal.Gen.facts,
  Cert.Route.Gen.facts,
  Cert.RouteIdeal.Gen.facts,
  Cert.RouteRefIdeal.Gen.facts,
  Cert.Peer.Gen.facts,
  Cert.PeerIdeal.Gen.facts,
  Cert.PeerRefIdeal.Gen.facts,
  fun m ρ _ => Cert.Attn.Gen.frame m ρ, fun m ρ _ => Cert.AttnIdeal.Gen.frame m ρ, Cert.AttnProof.frame_ref,
  fun m ρ _ => Cert.KvProj.Gen.frame m ρ, fun m ρ _ => Cert.KvProjIdeal.Gen.frame m ρ, Cert.KvProjProof.frame_ref,
  fun m ρ _ => Cert.MixOut.Gen.frame m ρ, fun m ρ _ => Cert.MixOutIdeal.Gen.frame m ρ, Cert.MixOutProof.frame_ref,
  fun m ρ _ => Cert.MixIn.Gen.frame m ρ, fun m ρ _ => Cert.MixInIdeal.Gen.frame m ρ, Cert.MixInProof.frame_ref,
  fun m ρ _ => Cert.Route.Gen.frame m ρ, fun m ρ _ => Cert.RouteIdeal.Gen.frame m ρ, Cert.RouteProof.frame_ref,
  fun m ρ _ => Cert.Peer.Gen.frame m ρ, fun m ρ _ => Cert.PeerIdeal.Gen.frame m ρ, Cert.PeerProof.frame_ref,
  trivial, Cert.AttnProof.algebraic,
  trivial, Cert.KvProjProof.algebraic,
  trivial, Cert.MixOutProof.algebraic,
  trivial, Cert.MixInProof.algebraic,
  trivial, Cert.RouteProof.algebraic,
  trivial, Cert.PeerProof.algebraic⟩

end Cert.Proof

end
